-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S1000000x64 : Shape := ⟨2, ![1000000, 64]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : IVec S16384 32) (main_arg1 : FVec F S1000000x64 .f32) : IVec S16384 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  main_v4
-- ==== Kernel.lean ====
abbrev S16384 : Shape := ⟨1, ![16384]⟩
abbrev S1000000x64 : Shape := ⟨2, ![1000000, 64]⟩
abbrev S_ : Shape := ⟨0, ![]⟩
abbrev S1000000x128 : Shape := ⟨2, ![1000000, 128]⟩
abbrev S16384x128 : Shape := ⟨2, ![16384, 128]⟩
abbrev S512 : Shape := ⟨1, ![512]⟩
abbrev S512x128 : Shape := ⟨2, ![512, 128]⟩
abbrev S128x128 : Shape := ⟨2, ![128, 128]⟩
abbrev S128 : Shape := ⟨1, ![128]⟩
abbrev S16384x64 : Shape := ⟨2, ![16384, 64]⟩

abbrev nBuf : Table → Nat
  | .hbm => 7
  | .local .scVector .vmem => 2
  | _ => 0

abbrev bufTy : (tb : Table) → Fin (nBuf tb) → BufTy
  | .hbm, ⟨0, _⟩ => ⟨S16384, .i32⟩
  | .hbm, ⟨1, _⟩ => ⟨S1000000x64, .f32⟩
  | .hbm, ⟨2, _⟩ => ⟨S_, .i32⟩
  | .hbm, ⟨3, _⟩ => ⟨S_, .f32⟩
  | .hbm, ⟨4, _⟩ => ⟨S1000000x128, .f32⟩
  | .hbm, ⟨5, _⟩ => ⟨S16384x128, .f32⟩
  | .hbm, ⟨6, _⟩ => ⟨S16384x64, .f32⟩
  | .local .scVector .vmem, ⟨0, _⟩ => ⟨S512, .i32⟩
  | .local .scVector .vmem, ⟨1, _⟩ => ⟨S512x128, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_v0_scv : Ref sig .scVector := ⟨.hbm, 4, rfl⟩
abbrev main_v1_scv : Ref sig .scVector := ⟨.hbm, 5, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_36_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x64 : Shape := ⟨2, ![1000000, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x64, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x64, .f32⟩
  | .hbm, ⟨21, _⟩ => ⟨S16384x64, .i1⟩
  | .hbm, ⟨22, _⟩ => ⟨S_, .f32⟩
  | .hbm, ⟨23, _⟩ => ⟨S16384x64, .f32⟩
  | .hbm, ⟨24, _⟩ => ⟨S16384x64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Issue.lean ====
/-
  Several indirect gathers outstanding on ONE semaphore. The kernel starts four row gathers on one DMA semaphore before
  it waits for any of them, so no single gather may hold the semaphore's counter. Here every ROW is one transfer of a
  batch (Lib/Batch.lean): all the rows credit the same amount, a gather of `o` rows uses up the issue rights of the next
  `o` transfers of the batch, and a wait takes a multiple of one row's credit. What a row hands back when it has landed
  is `rowDone`; the rows of one gather together are the destination written with the gather's payload (`rows_done_join`).
-/
module

public import Idealize.ShloMosaic.Lib.Batch
public import Idealize.ShloMosaic.Lib.SparseCore.Stream

@[expose] public section

noncomputable section

namespace Cert.Proof.Issue

open Idealize.ShloMosaic Idealize.ShloMosaic.SparseCore Idealize.ShloMosaic.Transfers
open Idealize.SL Idealize.SL.RA Idealize.SL.BI
open scoped Idealize.SL.BI
open Idealize.SL.BI.BIBase Idealize.SL.BI.Laws Idealize.SL.ProofMode Idealize.SL.Sem

/-! ## The next `o` issue rights of a batch -/

section Rights

variable {M : Type} [URA M] {n : ℕ}

/-- The `j`-th of the `o` transfers that follow the first `k` of a batch of `n`. -/
def nth (k o : ℕ) (hk : k + o ≤ n) (j : Fin o) : Fin n := ⟨k + j.val, by omega⟩

/-- The issue rights from transfer `k` on are those of the next `o` transfers and those from `k + o` on. -/
theorem pending_split (k : ℕ) (Φ : Fin n → sProp M) : ∀ (o : ℕ) (hk : k + o ≤ n),
    bigSep (pending k) Φ = iprop((bigSep Finset.univ fun j : Fin o => Φ (nth k o hk j)) ∗ bigSep (pending (k + o)) Φ)
  | 0, hk => by
    rw [show (Finset.univ : Finset (Fin 0)) = ∅ from rfl, bigSep_empty, Nat.add_zero]
    exact (Entails.antisymm emp_sep.1 emp_sep.2).symm
  | o + 1, hk => by
    rw [pending_split k Φ o (by omega), pending_succ (n := n) (show k + o < n by omega), bigSep_insert (not_mem_pending_succ (by omega)), Fin.univ_castSuccEmb, Finset.cons_eq_insert,
      bigSep_insert (by simp), bigSep_map]
    refine (show iprop((bigSep Finset.univ fun j : Fin o => Φ (nth k o (by omega) j)) ∗ (Φ ⟨k + o, by omega⟩ ∗ bigSep (pending (k + o + 1)) Φ))
      = iprop((Φ ⟨k + o, by omega⟩ ∗ bigSep Finset.univ fun j : Fin o => Φ (nth k o (by omega) j)) ∗ bigSep (pending (k + o + 1)) Φ) from ?_)
    have h (A B C : sProp M) : iprop(A ∗ B ∗ C) = iprop((B ∗ A) ∗ C) :=
      Entails.antisymm (show iprop(A ∗ B ∗ C) ⊢ iprop((B ∗ A) ∗ C) from sep_left_comm.1.trans sep_assoc.2)
        (show iprop((B ∗ A) ∗ C) ⊢ iprop(A ∗ B ∗ C) from sep_assoc.1.trans sep_left_comm.1)
    exact h _ _ _

end Rights

/-! ## One row of a gather -/

section Gather

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- What row `j` of a gather hands back when it has landed: the row of the destination, written with the source's row
    `r j`; the list's entry for the row; the row's piece of the source's share. -/
def rowDone (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (j : Fin (s.size hg.axis')) : sProp 𝕄 :=
  iprop(((dst.view.loc c ↦[(dst.view.slice (s.rowRect hg.axis' j)).set]{fullShare}
          ((dst.view.slice (s.rowRect hg.axis' j)).write (Elt F) fd (fun i => src.view.read (Elt F) fs (hg.rowIdx (r j) i)) Finset.univ))
        ∗ (offs.view.loc c ↦[{offs.view.emb (si.rowMajor.symm (j.cast hn.symm))}]{qo} fo))
      ∗ (src.view.loc c ↦[src.view.set]{pieceOf q _ ho j} fs))

variable {src : Memref sig c.2.kind sp s₀ e} {dst : Memref sig c.2.kind .vmem s e} {hg : s₀.Gathers a s}
  {offs : Memref sig c.2.kind .vmem si .i32} {hn : si.numel = s.size hg.axis'}
  {q qo : PosShare TreeShare} {fs : Buf (Elt F) (src.view.loc c)} {fd : Buf (Elt F) (dst.view.loc c)} {fo : Buf (Elt F) (offs.view.loc c)}

/-- A finished row may stand in a semaphore's store. -/
instance rowDone_storable (ho : 0 < s.size hg.axis') (r : Fin (s.size hg.axis') → Fin (s₀.size hg.axis)) (j : Fin (s.size hg.axis')) :
    BI.Storable (upEmb : UEmb _ 𝕄) (rowDone c src dst hg offs hn ho q qo fs fd fo r j) := by
  unfold rowDone; infer_instance

/-- The list's entries, numbered in row-major order, are its elements. -/
theorem entry_bijective (hn : si.numel = s.size hg.axis') :
    Function.Bijective fun j : Fin (s.size hg.axis') => si.rowMajor.symm (j.cast hn.symm) :=
  si.rowMajor.symm.bijective.comp (finCongr hn.symm).bijective

/-- A gather's rows, all landed, are its destination written with the gathered rows, the source's share and the list's. -/
theorem rows_done_join (ho : 0 < s.size hg.axis') (r : Fin (s.size hg.axis') → Fin (s₀.size hg.axis)) :
    (bigSep Finset.univ fun j => rowDone c src dst hg offs hn ho q qo fs fd fo r j)
      ⊢ (iprop((dst.view.loc c ↦[dst.view.set]{fullShare} (dst.view.write (Elt F) fd (gatherPayload hg (src.view.read (Elt F) fs) r) Finset.univ))
          ∗ (src.view.loc c ↦[src.view.set]{q} fs) ∗ (offs.view.loc c ↦[offs.view.set]{qo} fo)) : sProp 𝕄) := by
  unfold rowDone
  refine (bigSep_sep_out _ _ _).trans ((sep_mono_left (bigSep_sep_out _ _ _)).trans ?_)
  rw [← pointsTo_piecesOf src.view.set fs ho q, ← pointsTo_entries c offs.view _ (entry_bijective hn) qo fo]
  have hw := pointsTo_rows_write (Ix := Ix) (Name := Name) (U := U) (Lvl := Lvl) (Val := Elt F) c dst.view hg.axis' fd
    (fun j i => src.view.read (Elt F) fs (hg.rowIdx (r j) i)) (gatherPayload hg (src.view.read (Elt F) fs) r)
    (fun j i => by unfold gatherPayload; rw [Shape.Gathers.idx_rowRect_emb])
  iintro ⟨⟨Hr, Ho⟩, Hs⟩
  isplitl [Hr]
  · iapply hw; iexact Hr
  isplitl [Hs] <;> iassumption

/-- A gather started on a semaphore whose batch has `k` transfers issued: with a share of the source, the destination
    outright, a share of the list — its words all in range — and the batch, whose transfer `k + j` is to deliver what row
    `j` hands back (`hD`), the tile goes on holding the batch with `k + o` transfers issued, `o` the gather's rows. -/
theorem wp_gather_batch {n : ℕ} [Infinite Name] [EC.LandsIn (upEmb : UEmb _ 𝕄)] {sem : DmaSem sig}
    {hp : c.2.kind = .scVector} {hsrc : src.view.WordExact} {he : e.bits = 32} {hsp : sp = .hbm ∨ sp = .shared} {hr : s₀.StreamRows a}
    {K : PUnit → Prog (TpuEff nD τ sig (Elt F) Λ c.2) α} {D : Fin n → sProp 𝕄} {k u : ℕ} (ι : Ix) (N : ℕ)
    (hN : ∀ j, (dst.slice (s.rowRect hg.axis' j) (s.stride_rowRect hg.axis' j)).view.dmaCredit = N)
    (ho : 0 < s.size hg.axis') (hin : ∀ x, (offs.view.read (Elt F) fo x).toNat < s₀.size hg.axis)
    (hk : k + s.size hg.axis' ≤ n) (hu : u ≤ k * N)
    (hD : ∀ j, rowDone c src dst hg offs hn ho q qo fs fd fo (rows (offs.view.read (Elt F) fo) hn hin) j ⊢ D (nth k _ hk j)) :
    iprop((src.view.loc c ↦[src.view.set]{q} fs) ∗ (dst.view.loc c ↦[dst.view.set]{fullShare} fd)
        ∗ (offs.view.loc c ↦[offs.view.set]{qo} fo) ∗ Batch EC c (.dma sem) ι N D k u)
      ⊢ iprop((Batch EC c (.dma sem) ι N D (k + s.size hg.axis') u -∗ wp frame (wpE defs 𝒱 c bd) Set.univ (K ⟨⟩) Q)
          -∗ wp frame (wpE defs 𝒱 c bd) Set.univ (enqueueIndirectGather hp src dst hg offs hn sem hsrc he hsp hr >>= K) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := fun j x x' ρ ρ' h h' => by
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ j, (rd j).dst.view.dmaCredit = s.size hg.axis' * N :=
    (Finset.sum_congr rfl fun j _ => hN j).trans (by rw [Finset.sum_const, Finset.card_univ, Fintype.card_fin, smul_eq_mul])
  -- one row: behind its entry, its piece of the source, its write and its credit, which its issue right pays
  have hrow (γ : Fin n → ℕ) (γ₀ : ℕ) (κ : Name) (j : Fin (s.size hg.axis')) :
      iprop(inv κ (batchBody EC (c, SemLoc.dma sem) N D γ γ₀)
          ∗ (((dst.view.loc c ↦[(dst.view.slice (s.rowRect hg.axis' j)).set]{fullShare} fd) ∗ S.heldEntry qo fo j)
          ∗ (src.view.loc c ↦[src.view.set]{pieceOf q _ ho j} fs)) ∗ count EC (γ (nth k _ hk j)) 0)
        ⊢ iprop(S.heldEntry qo fo j ∗ (S.heldEntry qo fo j -∗ rowRes c (rd j))) := by
    iintro ⟨#Hinv, ⟨⟨Hdst, Hent⟩, Hsrc⟩, Hγ⟩
    isplitl [Hent]; · iexact Hent
    iintro Hent
    unfold rowRes
    iexists pieceOf q _ ho j, fs, iprop((dst.view.loc c ↦[(dst.view.slice (s.rowRect hg.axis' j)).set]{fullShare}
        ((dst.view.slice (s.rowRect hg.axis' j)).write (Elt F) fd (fun i => src.view.read (Elt F) fs (hg.rowIdx (r j) i)) Finset.univ))
      ∗ S.heldEntry qo fo j)
    isplitl [Hsrc]; · iexact Hsrc
    isplitl [Hdst Hent]
    · iapply writeUpdate_frame
      isplitl [Hdst]
      · iapply (pointsTo_writeUpdate c (v := dst.view.slice (s.rowRect hg.axis' j)) subset_rfl) $$ Hdst
      · iexact Hent
    have hamt : (rd j).dst.view.amount (.dma sem) = N := hN j
    rw [hamt]
    iapply (batch_creditUpdate EC (nth k _ hk j) (hD j))
    isplitr; · iexact Hinv
    iexact Hγ
  unfold Batch
  iintro ⟨Hs, Hd, Ho, ⟨%γ, %γ₀, %κ, #Hinv, HI, H0, Hcred⟩⟩ Hk
  ihave HI' := (Entails.of_eq (pending_split k (fun t => count EC (γ t) 0) _ hk)) $$ HI
  icases HI' with ⟨Hγ, HI⟩
  ihave Hd' := (Entails.of_eq (pointsTo_rows c dst.view hg.axis' fullShare fd)) $$ Hd
  ihave Ho' := (Entails.of_eq (pointsTo_entries c offs.view _ (entry_bijective hn) qo fo)) $$ Ho
  ihave Hs' := (Entails.of_eq (pointsTo_piecesOf src.view.set fs ho q)) $$ Hs
  iapply (wp_enqueueIndirectDma 𝒱 c bd Set.univ (qo := qo) (fo := fo) (rd := rd) ι _ hA hrd hsum) $$ [Hd' Ho' Hs' Hγ]
  · unfold Stream.res
    ihave H1 := bigSep_sep_in _ _ _ $$ [Hd' Ho']; · isplitl [Hd'] <;> iassumption
    ihave H2 := bigSep_sep_in _ _ _ $$ [H1 Hs']; · isplitl [H1] <;> iassumption
    ihave H3 := bigSep_sep_in _ _ _ $$ [H2 Hγ]; · isplitl [H2] <;> iassumption
    iapply (bigSep_mono_pers Finset.univ _ _ _ fun j _ => hrow γ γ₀ κ j)
    isplitr; · iexact Hinv
    iexact H3
  iintro Hcred'
  iapply Hk
  iexists γ, γ₀, κ
  isplitr; · iexact Hinv
  isplitl [HI]; · iexact HI
  isplitl [H0]; · iexact H0
  rw [show (k + s.size hg.axis') * N - u = (k * N - u) + s.size hg.axis' * N by rw [Nat.add_mul]; omega, ← tallyAt_add]
  icombine Hcred Hcred' as H
  iexact H

end Gather

end Cert.Proof.Issue

end
-- ==== Proof.Setup.lean ====
/-
  The launch, the arrays and what the SparseCore's thirty-two tasks are given and give back. Task `w` (vector subcore `i`
  of SparseCore `c`, `w = 2 i + c`) is given block `w` of the index array, a thirty-second share of the whole padded table
  and block `w` of the result; it gives back the first two unchanged and its block of the result at the gathered rows:
  row `x 0` of the result is the row of the padded table which word `x 0` of the index array names (`Gath`).
-/
module

public import proofs.«01_k».proof.Defs
public import proofs.«01_k».proof.Proof.Issue
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
/-- The one call runs on sixteen vector subcores of each SparseCore, -/
theorem nSub_zero : (K (F := F)).nSub 0 = 16 := rfl
/-- and on both SparseCores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and unscoped, and no SparseCore buffer is the tasks' shared one. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The index array, the table, the padded table, the SparseCore's result and @main's result. -/
abbrev nLoc (d : Dev nD) : Loc nD τ sig := (SparseCore.T d).loc main_arg0
abbrev eLoc (d : Dev nD) : Loc nD τ sig := (SparseCore.T d).loc main_arg1
abbrev pLoc (d : Dev nD) : Loc nD τ sig := (SparseCore.T d).loc main_v0
abbrev gLoc (d : Dev nD) : Loc nD τ sig := (SparseCore.T d).loc main_v1
abbrev rLoc (d : Dev nD) : Loc nD τ sig := (SparseCore.T d).loc main_v2

/-- The index array, the padded table and the result as a task names them; its index list and its row buffer. -/
abbrev idxV : Memref sig .scVector .hbm S16384 .i32 := Memref.whole main_arg0_scv
abbrev tabV : Memref sig .scVector .hbm S1000000x128 .f32 := Memref.whole main_v0_scv
abbrev outV : Memref sig .scVector .hbm S16384x128 .f32 := Memref.whole main_v1_scv
abbrev listV : Memref sig .scVector .vmem S512 .i32 := Memref.whole cc0_scratch0
abbrev rowsV : Memref sig .scVector .vmem S512x128 .f32 := Memref.whole cc0_scratch1

/-- The arrays' two-axis indices, from a row and a column. -/
abbrev ixT (r : Fin 1000000) (j : Fin 128) : S1000000x128.Idx := Shape.pair (d := ![1000000, 128]) r j
/-- The row of the table a word names (row 0 for a word that names none). -/
def rowAt (w : BitVec 32) : Fin 1000000 := if h : w.toNat < 1000000 then ⟨w.toNat, h⟩ else 0

/-- A word below a million names the row of its own number. -/
theorem rowAt_val {w : BitVec 32} (h : w.toNat < 1000000) : (rowAt w).val = w.toNat := by unfold rowAt; rw [dif_pos h]

/-- The one-axis index at a position. -/
abbrev ixN (k : Fin 16384) : S16384.Idx := fun _ => ⟨k.val, by simpa using k.isLt⟩

/-- The rows of a padded table `t` that the words of an index array `n` name. -/
def Gath (n : S16384.Idx → BitVec 32) (t : S1000000x128.Idx → Elt F .f32) : S16384x128.Idx → Elt F .f32 :=
  fun x => t (ixT (rowAt (n (ixN (x 0)))) (x 1))

/-! ## Blocks: thirty-two along the first axis -/

/-- The index array falls into thirty-two blocks, -/
theorem ndiv : 32 ∣ S16384.size 0 := ⟨512, rfl⟩
/-- and so does the result. -/
theorem odiv : 32 ∣ S16384x128.size 0 := ⟨512, rfl⟩
abbrev nRect (w : Fin 32) : Rect S16384 := Rect.part (s := S16384) (a₀ := 0) ndiv w
abbrev oRect (w : Fin 32) : Rect S16384x128 := Rect.part (s := S16384x128) (a₀ := 0) odiv w
abbrev nSet (w : Fin 32) : Finset S16384.Idx := ((idxV).view.slice (nRect w)).set
abbrev oSet (w : Fin 32) : Finset S16384x128.Idx := ((outV).view.slice (oRect w)).set

/-- Task `w`'s share of the padded table. -/
abbrev tq (w : Fin 32) : PosShare TreeShare := pieceOf fullShare 32 (by decide) w

/-- The task of vector subcore `i` of SparseCore `c`. -/
abbrev wid (c : Fin 2) (i : Fin 16) : Fin 32 := finProdFinEquiv (i, c)
/-- The number of a task. -/
theorem wid_val (c : Fin 2) (i : Fin 16) : (wid c i).val = c.val + 2 * i.val := rfl

/-- A block of the index array as a set of indices, -/
theorem nSet_eq (w : Fin 32) : nSet w = (nRect w).set := by
  show ((View.whole (main_arg0_scv : Ref sig .scVector)).slice (nRect w)).set = _
  rw [View.set_slice]; exact Finset.map_refl
/-- and a block of the result. -/
theorem oSet_eq (w : Fin 32) : oSet w = (oRect w).set := by
  show ((View.whole (main_v1_scv : Ref sig .scVector)).slice (oRect w)).set = _
  rw [View.set_slice]; exact Finset.map_refl

/-- The index array is its blocks, -/
theorem idx_blocks (d : Dev nD) (f : Buf (Elt F) (nLoc d)) :
    (nLoc d ↦{fullShare} f : sProp 𝕄) = bigSep Finset.univ fun w : Fin 32 => nLoc d ↦[nSet w]{fullShare} f := by
  rw [← pointsTo_biUnion Finset.univ (ℓ := nLoc d) nSet fun w _ w' _ h => by rw [nSet_eq, nSet_eq]; exact Rect.part_disjoint ndiv h,
    (Finset.biUnion_congr rfl fun w _ => nSet_eq w).trans (Rect.biUnion_part ndiv)]
/-- the result its blocks, -/
theorem out_blocks (d : Dev nD) (f : Buf (Elt F) (gLoc d)) :
    (gLoc d ↦{fullShare} f : sProp 𝕄) = bigSep Finset.univ fun w : Fin 32 => gLoc d ↦[oSet w]{fullShare} f := by
  rw [← pointsTo_biUnion Finset.univ (ℓ := gLoc d) oSet fun w _ w' _ h => by rw [oSet_eq, oSet_eq]; exact Rect.part_disjoint odiv h,
    (Finset.biUnion_congr rfl fun w _ => oSet_eq w).trans (Rect.biUnion_part odiv)]
/-- the padded table its shares. -/
theorem tab_shares (d : Dev nD) (f : Buf (Elt F) (pLoc d)) :
    (pLoc d ↦{fullShare} f : sProp 𝕄) = bigSep Finset.univ fun w : Fin 32 => pLoc d ↦{tq w} f :=
  pointsTo_piecesOf Finset.univ f (by decide) fullShare

/-- The thirty-two tasks are the sixteen of each SparseCore. -/
theorem by_core (Φ : Fin 32 → sProp 𝕄) :
    bigSep Finset.univ Φ = bigSep Finset.univ fun c : Fin 2 => bigSep Finset.univ fun i : Fin 16 => Φ (wid c i) := by
  rw [bigSep_univ_equiv (finProdFinEquiv : Fin 16 × Fin 2 ≃ Fin 32) Φ, bigSep_univ_prod, bigSep_univ_comm]

/-! ## What the handshakes carry -/

variable (m : (ℓ : Loc nD τ sig) → Buf (Elt F) ℓ) (ρ : Dev nD → PrngReg)

variable [FloatOps F]

/-- The padded table: the table with 64 more columns, each at the float that the integer zero converts to. -/
def Pad (d : Dev nD) : Buf (Elt F) (pLoc d) :=
  pad S1000000x128 ![0, 0] ![0, 64] ![0, 0] (m (eLoc d)) (sitofp .f32 (constantI S_ 32 0#32)) pads_S1000000x64_S1000000x128_000_0640 h_S_

/-- The SparseCore's result: the rows of the padded table the index array names. -/
abbrev Rows (d : Dev nD) : Buf (Elt F) (gLoc d) := Gath (m (nLoc d)) (Pad m d)

/-- What task `w` is given, and what it gives back. -/
def given (d : Dev nD) (w : Fin 32) : sProp 𝕄 :=
  iprop((nLoc d ↦[nSet w]{fullShare} m (nLoc d)) ∗ (pLoc d ↦{tq w} Pad m d) ∗ (gLoc d ↦[oSet w]{fullShare} m (gLoc d)))
def back (d : Dev nD) (w : Fin 32) : sProp 𝕄 :=
  iprop((nLoc d ↦[nSet w]{fullShare} m (nLoc d)) ∗ (pLoc d ↦{tq w} Pad m d) ∗ (gLoc d ↦[oSet w]{fullShare} Rows m d))

/-- What a task is given can be handed over, -/
instance given_storable (d : Dev nD) (w : Fin 32) : BI.Storable (upEmb : UEmb _ 𝕄) (given m d w) := by unfold given; infer_instance
/-- as can what it gives back, -/
instance back_storable (d : Dev nD) (w : Fin 32) : BI.Storable (upEmb : UEmb _ 𝕄) (back m d w) := by unfold back; infer_instance

/-- The one call: each SparseCore takes what its sixteen tasks are given, each task its own, and so back. -/
def P : (K (F := F)).Pay (nD := nD) (Val := Elt F) (Name := ℕ) (U := UU) where
  st := fun q d c => match q with
    | 0 => bigSep Finset.univ fun i : Fin 16 => given m d (wid (Fin.cast nCore_zero c) i)
  dn := fun q d c => match q with
    | 0 => bigSep Finset.univ fun i : Fin 16 => back m d (wid (Fin.cast nCore_zero c) i)
  go := fun q d c i => match q with
    | 0 => given m d (wid (Fin.cast nCore_zero c) (Fin.cast nSub_zero i))
  td := fun q d c i => match q with
    | 0 => back m d (wid (Fin.cast nCore_zero c) (Fin.cast nSub_zero i))
  x := fun _ _ => iprop(emp)

/-- and so everything the handshakes carry. -/
instance P_storable : (P (F := F) m).IsStorable where
  st q d c := match q with
    | 0 => (inferInstance : BI.Storable (upEmb : UEmb _ 𝕄) (bigSep Finset.univ fun i : Fin 16 => given m d (wid (Fin.cast nCore_zero c) i)))
  dn q d c := match q with
    | 0 => (inferInstance : BI.Storable (upEmb : UEmb _ 𝕄) (bigSep Finset.univ fun i : Fin 16 => back m d (wid (Fin.cast nCore_zero c) i)))
  go q d c i := match q with
    | 0 => (inferInstance : BI.Storable (upEmb : UEmb _ 𝕄) (given m d (wid (Fin.cast nCore_zero c) (Fin.cast nSub_zero i))))
  td q d c i := match q with
    | 0 => (inferInstance : BI.Storable (upEmb : UEmb _ 𝕄) (back m d (wid (Fin.cast nCore_zero c) (Fin.cast nSub_zero i))))

/-- What the proof asks of the launch memory: every word of the index array is below a million, so names a row of the
    table. -/
def InRange : Prop := ∀ (d : Dev nD) (j : S16384.Idx), (m (nLoc d) j).toNat < 1000000

end Cert.Proof.Gather

end
-- ==== Proof.Chunk.lean ====
/-
  One task's four gathers. Gather `b` reads the words of piece `b` (128 of them) of the task's index list and fills piece
  `b` (128 rows) of its row buffer; the four hold a quarter each of the task's share of the padded table, and all four are
  started before the first wait, so their 512 rows are one batch on one semaphore (Issue.lean). `split_pieces` hands the
  pieces out, `gather_step` starts one gather, `join_pieces` puts the landed rows back together: the row buffer holds, at
  row `x 0`, the row of the padded table that word `x 0` of the list names.
-/
module

public import proofs.«01_k».proof.Proof.Setup

@[expose] public section

noncomputable section

namespace Cert.Proof.Gather

open Cert.KernelIdeal Cert.KernelIdeal.Gen Cert.Proof.Issue

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

/-! ## The pieces -/

/-- A piece of 128 rows lies in the row buffer. -/
theorem lrow_inb (b : Fin 4) : ∀ a, (![128 * b.val, 0] : Fin 2 → Nat) a + S128x128.size a ≤ S512x128.size a := fun a => match a with
  | 0 => by show 128 * b.val + 128 ≤ 512; omega
  | 1 => by show 0 + 128 ≤ 128; omega
/-- A piece of 128 words lies in the index list. -/
theorem llist_inb (b : Fin 4) : ∀ a, (![128 * b.val] : Fin 1 → Nat) a + S128.size a ≤ S512.size a := fun a => match a with
  | 0 => by show 128 * b.val + 128 ≤ 512; omega

/-- Piece `b` of the row buffer and of the index list, and all of the padded table, as the gathers address them. -/
abbrev rowsP (b : Fin 4) : Memref sig .scVector .vmem S128x128 .f32 :=
  rowsV.slice (Rect.unit (s := S512x128) ![128 * b.val, 0] S128x128.size (lrow_inb b)) (fun _ => rfl)
abbrev listP (b : Fin 4) : Memref sig .scVector .vmem S128 .i32 :=
  listV.slice (Rect.unit (s := S512) ![128 * b.val] S128.size (llist_inb b)) (fun _ => rfl)
abbrev tabA : Memref sig .scVector .hbm S1000000x128 .f32 :=
  tabV.slice (Rect.unit (s := S1000000x128) ![0, 0] S1000000x128.size inb_S1000000x128_S1000000x128_0_0) (fun _ => rfl)

/-- Four pieces make up the row buffer, -/
theorem rdiv : 4 ∣ S512x128.size 0 := ⟨128, rfl⟩
/-- and four the index list. -/
theorem ldiv : 4 ∣ S512.size 0 := ⟨128, rfl⟩

/-- A piece of the row buffer is that quarter of it. -/
theorem rowsP_set (b : Fin 4) : (rowsP b).view.set = (Rect.part (s := S512x128) (a₀ := 0) rdiv b).set := by
  have e : Rect.unit (s := S512x128) ![128 * b.val, 0] S128x128.size (lrow_inb b) = Rect.part (s := S512x128) (a₀ := 0) rdiv b := by
    unfold Rect.part Rect.block
    congr 1 <;> funext a
    · match a with
      | 0 => simp [Shape.partIx, Shape.partSize]; omega
      | 1 => simp [Shape.partIx, Shape.partSize]
    · match a with
      | 0 => simp [Shape.partSize]
      | 1 => simp [Shape.partSize]
  rw [← e]
  show ((View.whole (cc0_scratch1 : Ref sig .scVector)).slice _).set = _
  rw [View.set_slice]; exact Finset.map_refl
/-- A piece of the index list is that quarter of it. -/
theorem listP_set (b : Fin 4) : (listP b).view.set = (Rect.part (s := S512) (a₀ := 0) ldiv b).set := by
  have e : Rect.unit (s := S512) ![128 * b.val] S128.size (llist_inb b) = Rect.part (s := S512) (a₀ := 0) ldiv b := by
    unfold Rect.part Rect.block
    congr 1 <;> funext a
    · match a with
      | 0 => simp [Shape.partIx, Shape.partSize]; omega
    · match a with
      | 0 => simp [Shape.partSize]
  rw [← e]
  show ((View.whole (cc0_scratch0 : Ref sig .scVector)).slice _).set = _
  rw [View.set_slice]; exact Finset.map_refl
/-- The table as a gather names it is all of it. -/
theorem tabA_set : tabA.view.set = Finset.univ := by
  refine Finset.eq_univ_of_forall fun x => ?_
  have : tabA.view.emb x = x := by
    funext a; apply Fin.ext
    match a with
    | 0 => show 0 + 1 * (x 0).val = (x 0).val; omega
    | 1 => show 0 + 1 * (x 1).val = (x 1).val; omega
  exact this ▸ tabA.view.emb_mem_set x

variable (d : Dev nD) (c : Fin τ.nSC) (i : Fin τ.nSub)

abbrev tl : Thread nD τ := V d c i
abbrev listLoc : Loc nD τ sig := (V d c i).loc cc0_scratch0
abbrev rowsLoc : Loc nD τ sig := (V d c i).loc cc0_scratch1

/-- The list is its pieces, the row buffer its, a share of the padded table its quarters. -/
theorem list_pieces (f : Buf (Elt F) (listLoc d c i)) :
    (listLoc d c i ↦{fullShare} f : sProp 𝕄)
      = bigSep Finset.univ fun b : Fin 4 => (listP b).view.loc (tl d c i) ↦[(listP b).view.set]{fullShare} f := by
  rw [← pointsTo_biUnion Finset.univ (ℓ := listLoc d c i) (fun b : Fin 4 => (listP b).view.set)
      fun b _ b' _ h => by rw [listP_set, listP_set]; exact Rect.part_disjoint ldiv h,
    (Finset.biUnion_congr rfl fun b _ => listP_set b).trans (Rect.biUnion_part ldiv)]
/-- The row buffer held whole is its four pieces held. -/
theorem rows_pieces (f : Buf (Elt F) (rowsLoc d c i)) :
    (rowsLoc d c i ↦{fullShare} f : sProp 𝕄)
      = bigSep Finset.univ fun b : Fin 4 => (rowsP b).view.loc (tl d c i) ↦[(rowsP b).view.set]{fullShare} f := by
  rw [← pointsTo_biUnion Finset.univ (ℓ := rowsLoc d c i) (fun b : Fin 4 => (rowsP b).view.set)
      fun b _ b' _ h => by rw [rowsP_set, rowsP_set]; exact Rect.part_disjoint rdiv h,
    (Finset.biUnion_congr rfl fun b _ => rowsP_set b).trans (Rect.biUnion_part rdiv)]

/-- Gather `b`'s quarter of a share. -/
abbrev quart (q : PosShare TreeShare) (b : Fin 4) : PosShare TreeShare := pieceOf q 4 (by decide) b

/-- A share of the table is four shares of it, one for each gather. -/
theorem tab_pieces (q : PosShare TreeShare) (f : Buf (Elt F) (pLoc d)) :
    (pLoc d ↦{q} f : sProp 𝕄)
      = bigSep Finset.univ fun b : Fin 4 => tabA.view.loc (tl d c i) ↦[tabA.view.set]{quart q b} f := by
  rw [tabA_set]; exact pointsTo_piecesOf Finset.univ f (by decide) q

/-! ## What a gather writes -/

variable (q : PosShare TreeShare) (t : Buf (Elt F) (pLoc d)) (f : Buf (Elt F) (listLoc d c i)) (fr : Buf (Elt F) (rowsLoc d c i))

/-- Every word of the list names a row of the table. -/
def ListOK : Prop := ∀ x, (f x : BitVec 32).toNat < 1000000

/-- The list's index at a position. -/
abbrev ixL (k : Fin 512) : S512.Idx := fun _ => ⟨k.val, by simpa using k.isLt⟩

/-- The row buffer once the four gathers have landed. -/
def Filled : Buf (Elt F) (rowsLoc d c i) := fun x => t (ixT (rowAt (f (ixL (x 0)))) (x 1))

variable {f} in
/-- The words of a piece of a good list name rows. -/
theorem piece_ok (hf : ListOK d c i f) (b : Fin 4) :
    ∀ x, ((listP b).view.read (Elt F) f x).toNat < S1000000x128.size gathers_S1000000x128_S128x128.axis := fun x => hf ((listP b).view.emb x)

/-- The rows gather `b` reads, in the order of its piece of the list. -/
abbrev rowsOf (hf : ListOK d c i f) (b : Fin 4) :=
  SparseCore.rows ((listP b).view.read (Elt F) f) (show S128.numel = S128x128.size gathers_S1000000x128_S128x128.axis' from rfl) (piece_ok d c i hf b)

/-- What gather `b` writes is its piece of `Filled`. -/
theorem gathered_eq (hf : ListOK d c i f) (b : Fin 4) : ∀ x ∈ (rowsP b).view.set,
    (rowsP b).view.write (Elt F) fr (SparseCore.gatherPayload gathers_S1000000x128_S128x128 (tabA.view.read (Elt F) t) (rowsOf d c i f hf b)) Finset.univ x
      = Filled d c i t f x := by
  intro x hx
  obtain ⟨y, -, rfl⟩ := Finset.mem_map.mp hx
  rw [View.write_emb_of_mem _ _ (Finset.mem_univ y)]
  show t (tabA.view.emb (gathers_S1000000x128_S128x128.idx (rowsOf d c i f hf b) y)) = t _
  congr 1
  funext a; apply Fin.ext
  match a with
  | 0 =>
    show 0 + 1 * (gathers_S1000000x128_S128x128.idx (rowsOf d c i f hf b) y (gathers_S1000000x128_S128x128.axis)).val = (rowAt _).val
    rw [Shape.Gathers.idx_axis, rowAt_val (hf _), Nat.zero_add, Nat.one_mul]
    show (f ((listP b).view.emb _)).toNat = _
    congr 2
    funext a; apply Fin.ext
    match a with
    | 0 =>
      show 128 * b.val + 1 * (S128.rowMajor.symm _ 0).val = 128 * b.val + 1 * (y 0).val
      congr 2
      have h := Shape.rowMajor_val_one (d := ![128]) (S128.rowMajor.symm ((y 0).cast rfl))
      refine h.symm.trans ?_
      exact congrArg Fin.val (Equiv.apply_symm_apply S128.rowMajor _)
  | 1 =>
    show 0 + 1 * (gathers_S1000000x128_S128x128.idx (rowsOf d c i f hf b) y 1).val = 0 + 1 * (y 1).val
    rw [Shape.Gathers.idx_of_ne gathers_S1000000x128_S128x128 _ y 1 (by decide)]
    rfl

/-! ## The batch -/

/-- Row `j` of gather `b`, landed. -/
abbrev rowLanded (hf : ListOK d c i f) (b : Fin 4) (j : Fin 128) : sProp 𝕄 :=
  rowDone (tl d c i) tabA (rowsP b) gathers_S1000000x128_S128x128 (listP b) rfl (by decide) (quart q b) fullShare t fr f (rowsOf d c i f hf b) j

/-- The batch's 512 deliveries: the 128 rows of gather 0, then those of 1, of 2 and of 3. -/
def deliver (hf : ListOK d c i f) (k : Fin 512) : sProp 𝕄 :=
  rowLanded d c i q t f fr hf (finProdFinEquiv.symm k : Fin 4 × Fin 128).1 (finProdFinEquiv.symm k : Fin 4 × Fin 128).2

/-- What the copies deliver may stand in the semaphore's store. -/
instance deliver_storable (hf : ListOK d c i f) (k : Fin 512) :
    BI.Storable (upEmb : UEmb _ 𝕄) (deliver d c i q t f fr hf k) := by
  unfold deliver; exact rowDone_storable _ _ _ _

/-- What the copies of a piece deliver are that piece's rows. -/
theorem deliver_nth (hf : ListOK d c i f) (b : Fin 4) (hk : 128 * b.val + 128 ≤ 512) (j : Fin 128) :
    deliver d c i q t f fr hf (nth (128 * b.val) 128 hk j) = rowLanded d c i q t f fr hf b j := by
  have e : (finProdFinEquiv.symm (nth (128 * b.val) 128 hk j) : Fin 4 × Fin 128) = (b, j) := by
    rw [Equiv.symm_apply_eq]; apply Fin.ext; show 128 * b.val + j.val = j.val + 128 * b.val; omega
  unfold deliver; rw [e]

/-- All delivered, the pieces are whole again: the row buffer `Filled`, the share of the table and the list as they were. -/
theorem join_pieces (hf : ListOK d c i f) :
    bigSep Finset.univ (deliver d c i q t f fr hf)
      ⊢ (iprop((rowsLoc d c i ↦{fullShare} Filled d c i t f) ∗ (pLoc d ↦{q} t) ∗ (listLoc d c i ↦{fullShare} f)) : sProp 𝕄) := by
  have e : bigSep Finset.univ (deliver d c i q t f fr hf)
      = bigSep Finset.univ fun b : Fin 4 => bigSep Finset.univ fun j : Fin 128 => rowLanded d c i q t f fr hf b j := by
    rw [bigSep_univ_equiv (finProdFinEquiv : Fin 4 × Fin 128 ≃ Fin 512) (deliver d c i q t f fr hf), bigSep_univ_prod]
    unfold deliver
    simp only [Equiv.symm_apply_apply]
  rw [e, rows_pieces, tab_pieces d c i, list_pieces]
  refine (bigSep_mono fun b _ => rows_done_join (tl d c i) (by decide) (rowsOf d c i f hf b)).trans ?_
  refine (bigSep_mono fun b _ => sep_mono_left (Entails.of_eq (pointsTo_congr (gathered_eq d c i t f fr hf b)))).trans ?_
  exact (bigSep_sep_out _ _ _).trans (sep_mono_right (bigSep_sep_out _ _ _))

/-- The second of three conjuncts, brought to the front. -/
theorem front_second (A B C : sProp 𝕄) : iprop(A ∗ B ∗ C) ⊢ iprop(B ∗ A ∗ C) := by
  iintro ⟨HA, HB, HC⟩
  isplitl [HB]; · iexact HB
  isplitl [HA]; · iexact HA
  iexact HC

/-- Three conjuncts and a fourth are four. -/
theorem regroup (A B C E : sProp 𝕄) : iprop((A ∗ B ∗ C) ∗ E) ⊢ iprop(A ∗ B ∗ C ∗ E) := by
  iintro ⟨⟨HA, HB, HC⟩, HE⟩
  isplitl [HA]; · iexact HA
  isplitl [HB]; · iexact HB
  isplitl [HC]; · iexact HC
  iexact HE

/-- The list, the share of the table and the row buffer, handed out: four gathers' pieces. -/
theorem split_pieces :
    (iprop((rowsLoc d c i ↦{fullShare} fr) ∗ (pLoc d ↦{q} t) ∗ (listLoc d c i ↦{fullShare} f)) : sProp 𝕄)
      ⊢ bigSep Finset.univ fun b : Fin 4 => iprop(((tabA.view.loc (tl d c i) ↦[tabA.view.set]{quart q b} t)
          ∗ ((rowsP b).view.loc (tl d c i) ↦[(rowsP b).view.set]{fullShare} fr)
          ∗ ((listP b).view.loc (tl d c i) ↦[(listP b).view.set]{fullShare} f)) : sProp 𝕄) := by
  rw [rows_pieces, tab_pieces d c i, list_pieces]
  refine BI.Entails.trans ?_ (Entails.of_eq (bigSep_sep' _ _ _).symm)
  refine BI.Entails.trans ?_ (sep_mono_right (Entails.of_eq (bigSep_sep' _ _ _).symm))
  exact front_second _ _ _

/-- Four things held separately. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## Starting one gather -/

/-- The first row of a piece. -/
abbrev row0 : Fin (S128x128.size 0) := ⟨0, by decide⟩
/-- The credit of one row, -/
abbrev credit : ℕ := ((rowsP 0).slice (S128x128.rowRect 0 row0) (S128x128.stride_rowRect 0 row0)).view.dmaCredit
/-- that of any row of any piece; -/
theorem credit_row (b : Fin 4) (j : Fin 128) :
    ((rowsP b).slice (S128x128.rowRect gathers_S1000000x128_S128x128.axis' j) (S128x128.stride_rowRect gathers_S1000000x128_S128x128.axis' j)).view.dmaCredit
      = credit := rfl
/-- a piece is worth its 128 rows. -/
theorem credit_piece (b : Fin 4) : (rowsP b).view.dmaCredit = 128 * credit :=
  (show (rowsP b).view.dmaCredit = (rowsP 0).view.dmaCredit from rfl).trans (by decide)
/-- A row pays something. -/
theorem credit_pos : 0 < credit := by decide

variable [FloatOps F] {α : Type} {Q : α → sProp (MT nD τ sig (HIx 1) (Elt F) ℕ UU ℕ)}
  {Kn : PUnit → Prog (TpuEff nD τ sig (Elt F) Λ₀ (.scVector c i)) α}

/-- Gather `b`, started when the `128 b` rows before it have been: it takes its pieces and leaves its 128 rows issued. -/
theorem gather_step (hf : ListOK d c i f) (b : Fin 4) {hsrc : tabA.view.WordExact} :
    (iprop(((tabA.view.loc (tl d c i) ↦[tabA.view.set]{quart q b} t)
          ∗ ((rowsP b).view.loc (tl d c i) ↦[(rowsP b).view.set]{fullShare} fr)
          ∗ ((listP b).view.loc (tl d c i) ↦[(listP b).view.set]{fullShare} f))
        ∗ Batch countersEmb (tl d c i) (.dma cc0_scratch2.sem) (default : HIx 1) credit (deliver d c i q t f fr hf) (128 * b.val) 0) : sProp 𝕄)
      ⊢ iprop((Batch countersEmb (tl d c i) (.dma cc0_scratch2.sem) (default : HIx 1) credit (deliver d c i q t f fr hf) (128 * b.val + 128) 0
            -∗ wp frame (wpE (defs₀ (F := F)) 𝒱₀ (tl d c i) none) Set.univ (Kn ⟨⟩) Q)
          -∗ wp frame (wpE (defs₀ (F := F)) 𝒱₀ (tl d c i) none) Set.univ
              (SparseCore.enqueueIndirectGather rfl tabA (rowsP b) gathers_S1000000x128_S128x128 (listP b) rfl cc0_scratch2.sem hsrc rfl
                (Or.inl rfl) >>= Kn) Q) := by
  have hk : 128 * b.val + 128 ≤ 512 := by omega
  have h := wp_gather_batch (defs := defs₀ (F := F)) (Q := Q) (K := Kn) (n := 512) (k := 128 * b.val) (u := 0) (sem := cc0_scratch2.sem)
    (hp := rfl) (hsrc := hsrc) (he := rfl) (hsp := Or.inl rfl) (src := tabA) (dst := rowsP b)
    (hg := gathers_S1000000x128_S128x128) (offs := listP b) (hn := rfl) (hr := by decide) (q := quart q b) (qo := fullShare) (fs := t) (fd := fr) (fo := f)
    (D := deliver d c i q t f fr hf) countersEmb 𝒱₀ (tl d c i) none (default : HIx 1) credit (credit_row b) (by decide)
    (piece_ok d c i hf b) hk (Nat.zero_le _) (fun j => Entails.of_eq (deliver_nth d c i q t f fr hf b hk j).symm)
  exact (regroup _ _ _ _).trans h

/-! ## Waiting for one gather -/

/-- All four started, a wait for a piece that is not the last: 128 rows' credit is consumed. -/
theorem wait_step (hf : ListOK d c i f) (b : Fin 4) (u : ℕ) (hu : u + 128 * credit ≤ credit * 512) {hsrc : tabA.view.WordExact}
    {hdst : (rowsP b).view.WordExact} {O : CellTallies nD τ sig (HIx 1)} {W : Waits sig (HIx 1)} :
    (iprop(Batch countersEmb (tl d c i) (.dma cc0_scratch2.sem) (default : HIx 1) credit (deliver d c i q t f fr hf) 512 u
        ∗ owes (tl d c i) O W ∗ MayWait (tl d c i) (.dma cc0_scratch2.sem) (default : HIx 1) O) : sProp 𝕄)
      ⊢ iprop((iprop(Batch countersEmb (tl d c i) (.dma cc0_scratch2.sem) (default : HIx 1) credit (deliver d c i q t f fr hf) 512 (u + 128 * credit)
              ∗ owes (tl d c i) O (insert (SemLoc.dma cc0_scratch2.sem, (default : HIx 1)) W))
            -∗ wp frame (wpE (defs₀ (F := F)) 𝒱₀ (tl d c i) none) Set.univ (Kn ⟨⟩) Q)
          -∗ wp frame (wpE (defs₀ (F := F)) 𝒱₀ (tl d c i) none) Set.univ
              (SparseCore.waitIndirectGather cc0_scratch2.sem tabA (rowsP b) hsrc hdst >>= Kn) Q) :=
  wp_waitBatchMulO (defs := defs₀ (F := F)) (Q := Q) (k := Kn) (sem := cc0_scratch2.sem) (srcw := tabA) (dstw := rowsP b)
    (hsrc := hsrc) (hdst := hdst) countersEmb 𝒱₀ (tl d c i) none (default : HIx 1) 128 (credit_piece b) hu

/-- The last wait: every row of the four gathers has landed. -/
theorem wait_last (hf : ListOK d c i f) (b : Fin 4) (u : ℕ) (hu : u + 128 * credit = credit * 512) {hsrc : tabA.view.WordExact}
    {hdst : (rowsP b).view.WordExact} {O : CellTallies nD τ sig (HIx 1)} {W : Waits sig (HIx 1)} :
    (iprop(Batch countersEmb (tl d c i) (.dma cc0_scratch2.sem) (default : HIx 1) credit (deliver d c i q t f fr hf) 512 u
        ∗ owes (tl d c i) O W ∗ MayWait (tl d c i) (.dma cc0_scratch2.sem) (default : HIx 1) O) : sProp 𝕄)
      ⊢ iprop((iprop(bigSep Finset.univ (deliver d c i q t f fr hf) ∗ semVal ((tl d c i), .dma cc0_scratch2.sem) 0
              ∗ owes (tl d c i) O (insert (SemLoc.dma cc0_scratch2.sem, (default : HIx 1)) W))
            -∗ wp frame (wpE (defs₀ (F := F)) 𝒱₀ (tl d c i) none) Set.univ (Kn ⟨⟩) Q)
          -∗ wp frame (wpE (defs₀ (F := F)) 𝒱₀ (tl d c i) none) Set.univ
              (SparseCore.waitIndirectGather cc0_scratch2.sem tabA (rowsP b) hsrc hdst >>= Kn) Q) :=
  wp_waitBatchAllO (defs := defs₀ (F := F)) (Q := Q) (k := Kn) (sem := cc0_scratch2.sem) (srcw := tabA) (dstw := rowsP b)
    (hsrc := hsrc) (hdst := hdst) countersEmb 𝒱₀ (tl d c i) none (default : HIx 1) (credit_piece b) credit_pos hu

end Cert.Proof.Gather

end
-- ==== Proof.Task.lean ====
/-
  One task, at a symbolic place: vector subcore `L 1` of SparseCore `L 0`. It fetches its block of the index array into
  its list, runs the four gathers (Chunk.lean), and copies its row buffer out to its block of the result. Its block of the
  result ends at the gathered rows (`Rows`), the index array and the padded table unchanged.
-/
module

public import proofs.«01_k».proof.Proof.Chunk

@[expose] public section

noncomputable section

namespace Cert.Proof.Gather

open Cert.KernelIdeal Cert.KernelIdeal.Gen Cert.Proof.Issue

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

abbrev cV (L : grid0.Coords) : Fin τ.nSC := (L 0).castLE hcore0
abbrev iV (L : grid0.Coords) : Fin τ.nSub := (L 1).castLE hsub0
/-- There are two cores -/
theorem bound_zero : grid0.bound 0 = 2 := rfl
/-- of sixteen tiles. -/
theorem bound_one : grid0.bound 1 = 16 := rfl
/-- The task's number. -/
abbrev wL (L : grid0.Coords) : Fin 32 := wid (Fin.cast bound_zero (L 0)) (Fin.cast bound_one (L 1))
/-- The number of the task at a grid point. -/
theorem wL_val : (wL L).val = (L 0).val + 2 * (L 1).val := rfl

/-! ## The blocks as the task addresses them -/

abbrev nRectK : Rect S16384 := Rect.unit (s := S16384) (k0_off1 L) S512.size (k0_off1_inb L)
abbrev oRectK : Rect S16384x128 := Rect.unit (s := S16384x128) (k0_off2 L) S512x128.size (k0_off2_inb L)
abbrev idxB : Memref sig .scVector .hbm S512 .i32 := idxV.slice (nRectK L) (fun _ => rfl)
abbrev outB : Memref sig .scVector .hbm S512x128 .f32 := outV.slice (oRectK L) (fun _ => rfl)

/-- The program's block of the index array is the task's, -/
theorem nRectK_eq : nRectK L = nRect (wL L) := by
  unfold nRectK nRect Rect.part Rect.block
  congr 1 <;> funext a
  · rw [k0_off1_eq]
    match a with
    | 0 =>
      show 1024 * (L 1).val + 512 * (L 0).val = (wL L).val * 512
      rw [wL_val]; omega
  · match a with
    | 0 => simp [Shape.partSize]
/-- and its block of the result is the task's. -/
theorem oRectK_eq : oRectK L = oRect (wL L) := by
  unfold oRectK oRect Rect.part Rect.block
  congr 1 <;> funext a
  · rw [k0_off2_eq]
    match a with
    | 0 =>
      show 1024 * (L 1).val + 512 * (L 0).val = (wL L).val * 512
      rw [wL_val]; omega
    | 1 => simp [Shape.partIx, Shape.partSize]
  · match a with
    | 0 => simp [Shape.partSize]
    | 1 => simp [Shape.partSize]

/-- The indices of the task's block of the index array, -/
theorem set_idxB : (idxB L).view.set = nSet (wL L) := by
  show ((idxV).view.slice (nRectK L)).set = ((idxV).view.slice (nRect (wL L))).set
  exact nRectK_eq L ▸ rfl
/-- and of its block of the result. -/
theorem set_outB : (outB L).view.set = oSet (wL L) := by
  show ((outV).view.slice (oRectK L)).set = ((outV).view.slice (oRect (wL L))).set
  exact oRectK_eq L ▸ rfl

/-- The index array's block held, in the program's spelling, -/
theorem pts_idxB (f : Buf (Elt F) (nLoc d)) :
    ((idxB L).view.loc (V d (cV L) (iV L)) ↦[(idxB L).view.set]{fullShare} f : sProp 𝕄) = nLoc d ↦[nSet (wL L)]{fullShare} f := by
  rw [set_idxB]
/-- the result's block held, -/
theorem pts_outB (f : Buf (Elt F) (gLoc d)) :
    ((outB L).view.loc (V d (cV L) (iV L)) ↦[(outB L).view.set]{fullShare} f : sProp 𝕄) = gLoc d ↦[oSet (wL L)]{fullShare} f := by
  rw [set_outB]
/-- the index list held, -/
theorem pts_listV (f : Buf (Elt F) (listLoc d (cV L) (iV L))) :
    ((listV).view.loc (V d (cV L) (iV L)) ↦{fullShare} f : sProp 𝕄) = listLoc d (cV L) (iV L) ↦{fullShare} f := rfl
/-- and the row buffer held. -/
theorem pts_rowsV (f : Buf (Elt F) (rowsLoc d (cV L) (iV L))) :
    ((rowsV).view.loc (V d (cV L) (iV L)) ↦{fullShare} f : sProp 𝕄) = rowsLoc d (cV L) (iV L) ↦{fullShare} f := rfl

/-! ## The task's semaphores and scratch -/

abbrev cellF (d : Dev nD) (c : Fin τ.nSC) (i : Fin τ.nSub) : GSem nD τ sig := (V d c i, .dma cc0_scoped0.sem)
abbrev cellO (d : Dev nD) (c : Fin τ.nSC) (i : Fin τ.nSub) : GSem nD τ sig := (V d c i, .dma cc0_scoped1.sem)
abbrev cellG (d : Dev nD) (c : Fin τ.nSC) (i : Fin τ.nSub) : GSem nD τ sig := (V d c i, .dma cc0_scratch2.sem)

/-- The fetch's cell, the write-out's and the gathers' are among the subcore's own. -/
theorem ownSems0_V :
    (ownSems0 (V d (cV L) (iV L)) : sProp 𝕄)
      = iprop(semVal (cellF d (cV L) (iV L)) 0 ∗ semVal (cellO d (cV L) (iV L)) 0 ∗ semVal (cellG d (cV L) (iV L)) 0
          ∗ bigSep ((((ownCells (V d (cV L) (iV L))).erase (cellF d (cV L) (iV L))).erase (cellO d (cV L) (iV L))).erase (cellG d (cV L) (iV L))) fun g => semVal g 0) := by
  unfold SparseCore.Cfg.ownSems0
  rw [SparseCore.bigSep_erase' ((mem_ownCells (g := cellF d (cV L) (iV L))).mpr ⟨rfl, by
      show (SemLoc.dma cc0_scoped0.sem : SemLoc sig).isScoped .scVector = true; decide⟩),
    SparseCore.bigSep_erase' (Finset.mem_erase.mpr ⟨by simp [cellF, cellO]; decide, (mem_ownCells (g := cellO d (cV L) (iV L))).mpr ⟨rfl, by
      show (SemLoc.dma cc0_scoped1.sem : SemLoc sig).isScoped .scVector = true; decide⟩⟩),
    SparseCore.bigSep_erase' (Finset.mem_erase.mpr ⟨by simp [cellO, cellG]; decide, Finset.mem_erase.mpr ⟨by simp [cellF, cellG]; decide,
      (mem_ownCells (g := cellG d (cV L) (iV L))).mpr ⟨rfl, by show (SemLoc.dma cc0_scratch2.sem : SemLoc sig).isScoped .scVector = true; decide⟩⟩⟩)]

/-- The list and the row buffer are among the subcore's own: they are them, at some contents, and the rest. -/
theorem ownBufs_V :
    (ownBufs (V d (cV L) (iV L)) : sProp 𝕄)
      = iprop((∃ f, listLoc d (cV L) (iV L) ↦{fullShare} f) ∗ (∃ f, rowsLoc d (cV L) (iV L) ↦{fullShare} f)
          ∗ bigSep (((ownRefs (τ := τ) (.scVector (cV L) (iV L))).erase ((Proc.scVector (cV L) (iV L)).devRef cc0_scratch0)).erase
              ((Proc.scVector (cV L) (iV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (iV L))
    (b := (Proc.scVector (cV L) (iV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (iV L)) (b := (Proc.scVector (cV L) (iV L)).devRef cc0_scratch1) rfl⟩)]

/-! ## The values -/

/-- The task's list: its block of the index array. -/
def listed : Buf (Elt F) (listLoc d (cV L) (iV L)) := fun x => m (nLoc d) ((idxB L).view.emb x)

/-- The words of the list name rows of the table. -/
theorem listed_ok (hpre : InRange m) : ListOK d (cV L) (iV L) (listed m d L) := fun _ => hpre d _

/-- What the fetch leaves in the list. -/
theorem fetched_eq (fs : Buf (Elt F) (listLoc d (cV L) (iV L))) (pay : S512.Idx → Elt F .i32)
    (hpay : pay = (idxB L).view.read (Elt F) (m (nLoc d))) :
    View.write (Elt F) (listV).view fs pay Finset.univ = listed m d L := by
  subst hpay; rw [View.write_whole_univ]; rfl

variable [FloatOps F]

/-- What the write-out leaves in the task's block of the result: the rows the index array names there. -/
theorem written_eq (fo : Buf (Elt F) (gLoc d)) (pay : S512x128.Idx → Elt F .f32)
    (hpay : pay = (rowsV).view.read (Elt F) (Filled d (cV L) (iV L) (Pad m d) (listed m d L))) :
    ∀ x ∈ oSet (wL L), (outB L).view.writes (Elt F) fo [⟨Rect.whole S512x128, pay⟩] x = Rows m d x := by
  subst hpay
  intro x hx
  rw [← View.write_univ_eq_writes_whole (outB L).view fo []]
  rw [← set_outB] at hx
  obtain ⟨y, -, rfl⟩ := Finset.mem_map.mp hx
  rw [View.write_emb_of_mem _ _ (Finset.mem_univ y)]
  show Pad m d (ixT (rowAt (m (nLoc d) ((idxB L).view.emb (ixL (y 0))))) (y 1))
    = Pad m d (ixT (rowAt (m (nLoc d) (ixN ((outB L).view.emb y 0)))) ((outB L).view.emb y 1))
  have e0 : (idxB L).view.emb (ixL (y 0)) = ixN ((outB L).view.emb y 0) := by
    funext a; apply Fin.ext
    match a with
    | 0 =>
      show k0_off1 L 0 + 1 * (y 0).val = k0_off2 L 0 + 1 * (y 0).val
      rw [k0_off1_eq, k0_off2_eq]; rfl
  have e1 : y 1 = (outB L).view.emb y 1 := by
    apply Fin.ext
    show (y 1).val = k0_off2 L 1 + 1 * (y 1).val
    rw [k0_off2_eq]; show _ = 0 + 1 * _; omega
  rw [e0, ← e1]

set_option maxHeartbeats 4000000 in
/-- The task on vector subcore `(L 0, L 1)` of device `d`. -/
theorem task_run (hF : (K (F := F)).Facts) (hpre : InRange m) (O : CellTallies nD τ sig (HIx 1)) (W : Waits sig (HIx 1)) (hO : ∀ g, O g none = 0) :
    iprop(levAts (K (F := F)).L (K (F := F)).lev ∗ emp ∗ given m d (wL L)
        ∗ scopedBufs (V d (cV L) (iV L)) ∗ scopedSems0 (V d (cV L) (iV L)) ∗ owes (V d (cV L) (iV L)) O W)
      ⊢ wp frame (wpE (defs₀ (F := F)) 𝒱₀ (V d (cV L) (iV L)) none) Set.univ
          (cc0__sc_gather L idxV (Memref.isWhole_whole _) tabV (Memref.isWhole_whole _) outV (Memref.isWhole_whole _)
            listV (Memref.isWhole_whole _) rowsV (Memref.isWhole_whole _) cc0_scratch2 cc0_scoped0 cc0_scoped1)
          fun _ => iprop(back m d (wL L)
            ∗ scopedBufs (V d (cV L) (iV L)) ∗ scopedSems0 (V d (cV L) (iV L))
            ∗ ∃ W', ⌜∀ p ∈ W', p ∈ W ∨ p.2 = none⌝ ∗ owes (V d (cV L) (iV L)) O W') := by
  simp only [cc0__sc_gather_eq_skeleton, k0_part1_eq_skeleton]; unfold cc0__sc_gather_skel; simp only [k0_part1_eq_skeleton]; unfold k0_part1_skel
  rw [(K (F := F)).scopedBufs_V hF d (cV L) (iV L), SparseCore.Cfg.scopedSems0_V (Val := Elt F) d (cV L) (iV L), ownSems0_V, ownBufs_V]
  unfold given back
  iintro ⟨#Hlv, -, ⟨Hn, Ht, Ho⟩, ⟨⟨%fs, Hs⟩, ⟨%fr, Hr⟩, Hbufs⟩, ⟨HsemF, HsemO, HsemG, Hsems⟩, HO⟩
  ihave Hmw := (show levAts (K (F := F)).L (K (F := F)).lev ⊢ Transfers.MayWaits (V d (cV L) (iV L)) (default : HIx 1) O from
    (K (F := F)).mayWaits_none (thr := V d (cV L) (iV L)) hO) $$ Hlv
  ihave Hn' := (Entails.of_eq (pts_idxB (F := F) d L _).symm) $$ Hn
  ihave Hs' := (Entails.of_eq (pts_listV (F := F) d L _).symm) $$ Hs
  ihave Hr' := (Entails.of_eq (pts_rowsV (F := F) d L _).symm) $$ Hr
  sl_exec
  -- the list is the task's block of the index array
  ihave Hl := (Entails.of_eq (congrArg (fun f => (listLoc d (cV L) (iV L) ↦{fullShare} f : sProp 𝕄)) (fetched_eq m d L fs (task_run.sl.dma0 m d L) rfl))) $$ Hs'
  have hf : ListOK d (cV L) (iV L) (listed m d L) := listed_ok m d L hpre
  -- the four gathers' pieces, and their batch
  ihave Hp := (split_pieces d (cV L) (iV L) (tq (wL L)) (Pad m d) (listed m d L) fr) $$ [Hr' Ht Hl]
  · isplitl [Hr']; · iexact Hr'
    isplitl [Ht]; · iexact Ht
    iexact Hl
  ihave Hp := (Entails.of_eq (four _)) $$ Hp
  icases Hp with ⟨Hp0, Hp1, Hp2, Hp3⟩
  imod (batch_alloc' countersEmb (V d (cV L) (iV L)) (default : HIx 1) credit (deliver d (cV L) (iV L) (tq (wL L)) (Pad m d) (listed m d L) fr hf)) $$ HsemG with HB
  simp only [bind_assoc, pure_bind]
  iapply (gather_step d (cV L) (iV L) (tq (wL L)) (Pad m d) (listed m d L) fr hf 0) $$ [Hp0 HB]
  · isplitl [Hp0]; · iexact Hp0
    iexact HB
  iintro HB
  iapply (gather_step d (cV L) (iV L) (tq (wL L)) (Pad m d) (listed m d L) fr hf 1) $$ [Hp1 HB]
  · isplitl [Hp1]; · iexact Hp1
    iexact HB
  iintro HB
  iapply (gather_step d (cV L) (iV L) (tq (wL L)) (Pad m d) (listed m d L) fr hf 2) $$ [Hp2 HB]
  · isplitl [Hp2]; · iexact Hp2
    iexact HB
  iintro HB
  iapply (gather_step d (cV L) (iV L) (tq (wL L)) (Pad m d) (listed m d L) fr hf 3) $$ [Hp3 HB]
  · isplitl [Hp3]; · iexact Hp3
    iexact HB
  iintro HB
  -- the four waits
  iapply (wait_step d (cV L) (iV L) (tq (wL L)) (Pad m d) (listed m d L) fr hf 0 0 (by omega)) $$ [HB HO]
  · isplitl [HB]; · iexact HB
    isplitl [HO]; · iexact HO
    iapply (Transfers.MayWaits.elim (SemLoc.dma cc0_scratch2.sem)) $$ Hmw
  iintro ⟨HB, HO⟩
  iapply (wait_step d (cV L) (iV L) (tq (wL L)) (Pad m d) (listed m d L) fr hf 1 (0 + 128 * credit) (by omega)) $$ [HB HO]
  · isplitl [HB]; · iexact HB
    isplitl [HO]; · iexact HO
    iapply (Transfers.MayWaits.elim (SemLoc.dma cc0_scratch2.sem)) $$ Hmw
  iintro ⟨HB, HO⟩
  iapply (wait_step d (cV L) (iV L) (tq (wL L)) (Pad m d) (listed m d L) fr hf 2 (0 + 128 * credit + 128 * credit) (by omega)) $$ [HB HO]
  · isplitl [HB]; · iexact HB
    isplitl [HO]; · iexact HO
    iapply (Transfers.MayWaits.elim (SemLoc.dma cc0_scratch2.sem)) $$ Hmw
  iintro ⟨HB, HO⟩
  iapply (wait_last d (cV L) (iV L) (tq (wL L)) (Pad m d) (listed m d L) fr hf 3 (0 + 128 * credit + 128 * credit + 128 * credit) (by omega)) $$ [HB HO]
  · isplitl [HB]; · iexact HB
    isplitl [HO]; · iexact HO
    iapply (Transfers.MayWaits.elim (SemLoc.dma cc0_scratch2.sem)) $$ Hmw
  iintro ⟨HB, HsemG, HO⟩
  -- the row buffer filled, the share of the table and the list back
  ihave HJ := (join_pieces d (cV L) (iV L) (tq (wL L)) (Pad m d) (listed m d L) fr hf) $$ HB
  icases HJ with ⟨Hr, Ht, Hl⟩
  ihave Hr' := (Entails.of_eq (pts_rowsV (F := F) d L _).symm) $$ Hr
  ihave Ho' := (Entails.of_eq (pts_outB (F := F) d L _).symm) $$ Ho
  sl_exec
  sl_step
  isplitl [Hn' Ht Ho']
  · isplitl [Hn']; · iapply (Entails.of_eq (pts_idxB (F := F) d L _)); iexact Hn'
    isplitl [Ht]; · iexact Ht
    ihave Ho := (Entails.of_eq (pts_outB (F := F) d L _)) $$ Ho'
    iapply (Entails.of_eq (pointsTo_congr (written_eq m d L (m (gLoc d)) (task_run.sl.dma0_1 m d L) rfl))); iexact Ho
  isplitl [Hl Hr' Hbufs]
  · isplitl [Hl]; · iexists _; iexact Hl
    isplitl [Hr']; · iexists _; iexact Hr'
    iexact Hbufs
  isplitl [HsemF HsemO HsemG Hsems]
  · isplitl [HsemF]; · iexact HsemF
    isplitl [HsemO]; · iexact HsemO
    isplitl [HsemG]; · iexact HsemG
    iexact Hsems
  iexists _; isplitr
  swap; · iexact HO
  ipureintro; intro p hp
  iterate 6 (rcases Finset.mem_insert.mp hp with hp | hp; · exact .inr (hp ▸ rfl))
  exact .inl hp

/-! ## The obligation -/

/-- The grid coordinates of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The call's body on a vector subcore is the kernel at its coordinates. -/
theorem defs₀_vector (c : Fin τ.nSC) (s : Fin τ.nSub) :
    defs₀ (F := F) (.scVector c s) 0 ()
      = SparseCore.onTile hcore0 hsub0 (fun c s => cc0__sc_gather (coordsV c s)
          idxV (Memref.isWhole_whole _) tabV (Memref.isWhole_whole _) outV (Memref.isWhole_whole _)
          listV (Memref.isWhole_whole _) rowsV (Memref.isWhole_whole _) cc0_scratch2 cc0_scoped0 cc0_scoped1) ⟨⟩ c s := rfl

omit [FloatOps F] in
/-- A task that waits on nothing but unindexed cells meets the launch's bound on its waits. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call meets what the launch asks of it. -/
theorem tileObl (hF : (K (F := F)).Facts) (hpre : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task_run m d (coordsV ⟨_, hci.1⟩ ⟨_, hci.2⟩) hF hpre O W hO).trans (wp_mono frame _ _ fun _ => obl_post)

end Cert.Proof.Gather

end
-- ==== Proof.Launch.lean ====
/-
  The launch: what @main holds is dealt to the thirty-two tasks and collected from them, @main runs (the zero, its
  conversion, the padding, the SparseCore call, the slice), and every run of the whole program ends with the result at
  `Result`, the two arguments as they were and every semaphore at zero (`run_main`).
-/
module

public import proofs.«01_k».proof.Proof.Task

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo Idealize.ShloMosaic.Rounds Idealize.ShloMosaic.Transfers
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## A SparseCore's tasks are its sixteen subcores' -/

/-- The subcores the call runs on, counted as sixteen. -/
theorem by_sub (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

/-- What a SparseCore is given is what its tasks are given, and what they give back is what it gives back. -/
theorem vecSplit : (K (F := F)).VecSplit' (P m) 0 := by
  intro d c
  show (bigSep Finset.univ fun i : Fin 16 => given m d (wid (Fin.cast nCore_zero c) i)) ⊢ |={Set.univ}=> iprop(
      (bigSep Finset.univ fun i : Fin ((K (F := F)).nSub 0) => given m d (wid (Fin.cast nCore_zero c) (Fin.cast nSub_zero i)))
      ∗ ((bigSep Finset.univ fun i : Fin ((K (F := F)).nSub 0) => back m d (wid (Fin.cast nCore_zero c) (Fin.cast nSub_zero i)))
          -∗ bigSep Finset.univ fun i : Fin 16 => back m d (wid (Fin.cast nCore_zero c) i)))
  rw [by_sub (F := F) (fun i => given m d (wid (Fin.cast nCore_zero c) i)), by_sub (F := F) (fun i => back m d (wid (Fin.cast nCore_zero c) i))]
  iintro H; imodintro
  isplitl [H]; · iexact H
  iintro H; iexact H

/-- The index array, the padded table and the result, whole, are what the two SparseCores are given, -/
theorem given_all (d : Dev nD) :
    (bigSep Finset.univ fun c : Fin ((K (F := F)).nCore 0) => (P m).st 0 d c)
      = iprop((nLoc d ↦{fullShare} m (nLoc d)) ∗ (pLoc d ↦{fullShare} Pad m d) ∗ (gLoc d ↦{fullShare} m (gLoc d))) := by
  rw [idx_blocks, tab_shares, out_blocks]
  refine Eq.trans (by_core (F := F) (given m d)).symm ?_
  unfold given
  rw [bigSep_sep', bigSep_sep']
/-- and with the result at the gathered rows, what they give back. -/
theorem back_all (d : Dev nD) :
    (bigSep Finset.univ fun c : Fin ((K (F := F)).nCore 0) => (P m).dn 0 d c)
      = iprop((nLoc d ↦{fullShare} m (nLoc d)) ∗ (pLoc d ↦{fullShare} Pad m d) ∗ (gLoc d ↦{fullShare} Rows m d)) := by
  rw [idx_blocks, tab_shares, out_blocks]
  refine Eq.trans (by_core (F := F) (back m d)).symm ?_
  unfold back
  rw [bigSep_sep', bigSep_sep']

/-! ## The launch element of the ghost state -/

/-- The ghost state at the start. -/
def u₀ : UU := (initOf (K (F := F)).hsCells (K (F := F)).hsToks, 1)

/-- The launch element gives the handshakes' tokens; the tasks need no ghost state of their own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = iprop(emp) :=
    (bigSep_congr fun _ _ => bigSep_emp_const _).trans (bigSep_emp_const _)
  have he : (bigSep Finset.univ fun _ : Dev nD => (iprop(emp) : sProp 𝕄)) = iprop(emp) := bigSep_emp_const _
  rw [hx, he]
  unfold u₀
  iintro Hu
  ihave H := (ownU_pair (initOf (K (F := F)).hsCells (K (F := F)).hsToks) (1 : Counters)) $$ Hu
  icases H with ⟨HH, -⟩
  imodintro
  isplitl [HH]; · iexact HH
  isplitl [] <;> iempintro

/-! ## @main on the TensorCore -/

abbrev nB : DevRef τ sig := Proc.devRef .tc (main_arg0 : Ref sig .tc)
abbrev eB : DevRef τ sig := Proc.devRef .tc (main_arg1 : Ref sig .tc)
abbrev zB : DevRef τ sig := Proc.devRef .tc (main_c : Ref sig .tc)
abbrev wB : DevRef τ sig := Proc.devRef .tc (main_call0_v0 : Ref sig .tc)
abbrev pB : DevRef τ sig := Proc.devRef .tc (main_v0 : Ref sig .tc)
abbrev gB : DevRef τ sig := Proc.devRef .tc (main_v1 : Ref sig .tc)
abbrev rB : DevRef τ sig := Proc.devRef .tc (main_v2 : Ref sig .tc)

/-- @main's operations: the zero, the float it converts to, the padding, the slice. -/
abbrev opZero : HloOp τ sig (Elt F) := StableHlo.nullary main_c (constantI S_ 32 0#32)
abbrev opConv : HloOp τ sig (Elt F) := StableHlo.TRef.unary (.of main_c : StableHlo.TRef sig ⟨S_, .i32⟩) main_call0.v0 (sitofp .f32)
abbrev opPad : HloOp τ sig (Elt F) := StableHlo.TRef.binary (.of main_arg1 : StableHlo.TRef sig ⟨S1000000x64, .f32⟩) main_call0.v0 main_call0.v1
  (fun x v => pad S1000000x128 ![0, 0] ![0, 64] ![0, 0] x v pads_S1000000x64_S1000000x128_000_0640 h_S_)
abbrev opCut : HloOp τ sig (Elt F) := StableHlo.unary main_v1 main_v2
  ((extractStridedSlice S16384x64 ![0, 0] · slices_S16384x128_S16384x64_0_0) : (⟨S16384x128, .f32⟩ : BufTy).Contents (Elt F) → (⟨S16384x64, .f32⟩ : BufTy).Contents (Elt F))

/-- The TensorCore's arrays. -/
abbrev arrays : Finset (DevRef τ sig) := {nB, eB, zB, wB, pB, gB, rB}

omit [FloatOps F] in
/-- @main's arrays held are the seven of them held. -/
theorem held_arrays (d : Dev nD) (W : Valuation τ sig (Elt F)) :
    (held (T d) arrays W : sProp 𝕄)
      = iprop((nLoc d ↦{fullShare} W nB) ∗ (eLoc d ↦{fullShare} W eB) ∗ ((SparseCore.T d).loc main_c ↦{fullShare} W zB)
          ∗ ((SparseCore.T d).loc main_call0_v0 ↦{fullShare} W wB) ∗ (pLoc d ↦{fullShare} W pB) ∗ (gLoc d ↦{fullShare} W gB) ∗ rLoc d ↦{fullShare} W rB) := by
  unfold held arrays
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch contents as a valuation; those before the call; those after it, the result at the gathered rows. -/
def Va (d : Dev nD) : Valuation τ sig (Elt F) := fun b => m (d, b)
def Vb (d : Dev nD) : Valuation τ sig (Elt F) := (opPad (F := F)).result ((opConv (F := F)).result ((opZero (F := F)).result (Va m d)))
def Vc (d : Dev nD) : Valuation τ sig (Elt F) := Function.update (Vb m d) gB (Rows m d)

/-- What @main starts with is its arrays at the launch contents. -/
theorem unscoped_held (d : Dev nD) : (unscopedBufs d (fun b => m ((SparseCore.T d).loc b)) : sProp 𝕄) = held (T d) arrays (Va m d) := by
  rw [held_arrays]
  unfold unscopedBufs
  rw [show (Finset.univ.filter fun b : Ref sig .tc => ¬ b.isScoped) = {main_arg0, main_arg1, main_c, main_call0_v0, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The operations before the call write only their results. -/
theorem Vb_of_ne (d : Dev nD) (b : DevRef τ sig) (hz : b ≠ zB) (hw : b ≠ wB) (hp : b ≠ pB) : Vb m d b = m (d, b) := by
  unfold Vb
  rw [(opPad (F := F)).result_of_not_mem _ (show b ∉ ({pB} : Finset (DevRef τ sig)) from fun h => hp (Finset.mem_singleton.mp h)),
    (opConv (F := F)).result_of_not_mem _ (show b ∉ ({wB} : Finset (DevRef τ sig)) from fun h => hw (Finset.mem_singleton.mp h)),
    (opZero (F := F)).result_of_not_mem _ (show b ∉ ({zB} : Finset (DevRef τ sig)) from fun h => hz (Finset.mem_singleton.mp h))]
  rfl
/-- The padding leaves the padded table. -/
theorem Vb_pad (d : Dev nD) : Vb m d pB = Pad m d := by
  unfold Vb Pad
  refine (StableHlo.binary_result _ _ _ _ _ _ _ _).trans ?_
  have he : (opConv (F := F)).result ((opZero (F := F)).result (Va m d)) eB = m (eLoc d) := by
    rw [(opConv (F := F)).result_of_not_mem _ (show eB ∉ ({wB} : Finset (DevRef τ sig)) by decide),
      (opZero (F := F)).result_of_not_mem _ (show eB ∉ ({zB} : Finset (DevRef τ sig)) by decide)]
    rfl
  have hw : (opConv (F := F)).result ((opZero (F := F)).result (Va m d)) wB = sitofp .f32 (constantI S_ 32 0#32) := by
    refine (StableHlo.unary_result _ _ _ _ _ _).trans ?_
    rw [StableHlo.nullary_result]
    rfl
  rw [he, hw]
  rfl

/-- The result: the first 64 columns of the gathered rows. -/
def Result (d : Dev nD) : Buf (Elt F) (rLoc d) :=
  extractStridedSlice S16384x64 ![0, 0] (Rows m d : (⟨S16384x128, .f32⟩ : BufTy).Contents (Elt F)) slices_S16384x128_S16384x64_0_0

/-- The arrays before the call, -/
theorem held_Vb (d : Dev nD) :
    (held (T d) arrays ((opPad (F := F)).result ((opConv (F := F)).result ((opZero (F := F)).result (Va m d)))) : sProp 𝕄)
      = iprop((nLoc d ↦{fullShare} m (nLoc d)) ∗ (eLoc d ↦{fullShare} m (eLoc d)) ∗ ((SparseCore.T d).loc main_c ↦{fullShare} Vb m d zB)
          ∗ ((SparseCore.T d).loc main_call0_v0 ↦{fullShare} Vb m d wB) ∗ (pLoc d ↦{fullShare} Pad m d) ∗ (gLoc d ↦{fullShare} m (gLoc d))
          ∗ rLoc d ↦{fullShare} m (rLoc d)) := by
  show held (SparseCore.T d) arrays (Vb m d) = _
  rw [held_arrays, Vb_pad, Vb_of_ne m d nB (by decide) (by decide) (by decide), Vb_of_ne m d eB (by decide) (by decide) (by decide),
    Vb_of_ne m d gB (by decide) (by decide) (by decide), Vb_of_ne m d rB (by decide) (by decide) (by decide)]
/-- after it, -/
theorem held_Vc (d : Dev nD) :
    (held (T d) arrays (Vc m d) : sProp 𝕄)
      = iprop((nLoc d ↦{fullShare} m (nLoc d)) ∗ (eLoc d ↦{fullShare} m (eLoc d)) ∗ ((SparseCore.T d).loc main_c ↦{fullShare} Vb m d zB)
          ∗ ((SparseCore.T d).loc main_call0_v0 ↦{fullShare} Vb m d wB) ∗ (pLoc d ↦{fullShare} Pad m d) ∗ (gLoc d ↦{fullShare} Rows m d)
          ∗ rLoc d ↦{fullShare} m (rLoc d)) := by
  have hg : Vc m d gB = Rows m d := Function.update_self _ _ _
  have ho (b : DevRef τ sig) (h : b ≠ gB) : Vc m d b = Vb m d b := Function.update_of_ne h _ _
  rw [held_arrays, hg, ho nB (by decide), ho eB (by decide), ho zB (by decide), ho wB (by decide), ho pB (by decide), ho rB (by decide),
    Vb_pad, Vb_of_ne m d nB (by decide) (by decide) (by decide), Vb_of_ne m d eB (by decide) (by decide) (by decide),
    Vb_of_ne m d rB (by decide) (by decide) (by decide)]
/-- and after the slice. -/
theorem held_Vd (d : Dev nD) :
    (held (T d) arrays ((opCut (F := F)).result (Vc m d)) : sProp 𝕄)
      = iprop((nLoc d ↦{fullShare} m (nLoc d)) ∗ (eLoc d ↦{fullShare} m (eLoc d)) ∗ ((SparseCore.T d).loc main_c ↦{fullShare} Vb m d zB)
          ∗ ((SparseCore.T d).loc main_call0_v0 ↦{fullShare} Vb m d wB) ∗ (pLoc d ↦{fullShare} Pad m d) ∗ (gLoc d ↦{fullShare} Rows m d)
          ∗ rLoc d ↦{fullShare} Result m d) := by
  have hg : Vc m d gB = Rows m d := Function.update_self _ _ _
  have hr : (opCut (F := F)).result (Vc m d) rB = Result m d := by
    refine (StableHlo.unary_result _ _ _ _ _ _).trans ?_
    rw [hg]; rfl
  have ho (b : DevRef τ sig) (h : b ≠ rB) : (opCut (F := F)).result (Vc m d) b = Vc m d b :=
    (opCut (F := F)).result_of_not_mem _ (show b ∉ ({rB} : Finset (DevRef τ sig)) from fun e => h (Finset.mem_singleton.mp e))
  have hc (b : DevRef τ sig) (h : b ≠ gB) : Vc m d b = Vb m d b := Function.update_of_ne h _ _
  rw [held_arrays, hr, ho nB (by decide), ho eB (by decide), ho zB (by decide), ho wB (by decide), ho pB (by decide), ho gB (by decide), hg,
    hc nB (by decide), hc eB (by decide), hc zB (by decide), hc wB (by decide), hc pB (by decide),
    Vb_pad, Vb_of_ne m d nB (by decide) (by decide) (by decide), Vb_of_ne m d eB (by decide) (by decide) (by decide)]

/-- The zero is written among @main's arrays, -/
theorem in_zero : (opZero (F := F)).bufs ⊆ arrays := show ({zB} : Finset (DevRef τ sig)) ⊆ arrays by decide
/-- its conversion too, -/
theorem in_conv : (opConv (F := F)).bufs ⊆ arrays := show ({zB, wB} : Finset (DevRef τ sig)) ⊆ arrays by decide
/-- the padding too, -/
theorem in_pad : (opPad (F := F)).bufs ⊆ arrays := show ({eB, wB, pB} : Finset (DevRef τ sig)) ⊆ arrays by decide
/-- and the slice. -/
theorem in_cut : (opCut (F := F)).bufs ⊆ arrays := show ({gB, rB} : Finset (DevRef τ sig)) ⊆ arrays by decide

/-- What @main keeps at its end: the arguments as they were and the result. -/
abbrev FIN (d : Dev nD) : sProp 𝕄 :=
  iprop((nLoc d ↦{fullShare} m (nLoc d)) ∗ (eLoc d ↦{fullShare} m (eLoc d)) ∗ rLoc d ↦{fullShare} Result m d)

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  -- the zero, its conversion, the padding
  iapply (wp_hlo_within 𝒱 (SparseCore.T d) none Set.univ (op := opZero) (S := arrays) in_zero (V := Va m d)) $$ [Hb Hheld]
  · isplitl [Hb] <;> iassumption
  iintro ⟨Hb, Hheld⟩
  rw [wp_ret]; imodintro
  iapply (wp_hlo_within 𝒱 (SparseCore.T d) none Set.univ (op := opConv) (S := arrays) in_conv (V := (opZero (F := F)).result (Va m d))) $$ [Hb Hheld]
  · isplitl [Hb] <;> iassumption
  iintro ⟨Hb, Hheld⟩
  rw [wp_ret]; imodintro
  iapply (wp_hlo_within 𝒱 (SparseCore.T d) none Set.univ (op := opPad) (S := arrays) in_pad
    (V := (opConv (F := F)).result ((opZero (F := F)).result (Va m d)))) $$ [Hb Hheld]
  · isplitl [Hb] <;> iassumption
  iintro ⟨Hb, Hheld⟩
  rw [wp_ret]; imodintro; imodintro
  -- the call: the index array, the padded table and the result to the SparseCores and back
  ihave Hh := (Entails.of_eq (held_Vb (F := F) m d)) $$ Hheld
  icases Hh with ⟨Hn, He, Hz, Hw, Hp, Hg, Hr⟩
  iapply ((K (F := F)).wp_run (D (F := F)) 𝒱 (EH := EH) (P := P m) κ d 0) $$ [Hst Hn He Hz Hw Hp Hg Hr Hb Hts]
  isplitr; · iexact Hctx
  isplitl [Hst]; · iexact Hst
  isplitl [Hn Hp Hg]
  · rw [given_all]
    isplitl [Hn]; · iexact Hn
    isplitl [Hp]; · iexact Hp
    iexact Hg
  iintro ⟨Hst, Hdn⟩
  ihave Hdn' := (Entails.of_eq (back_all m d)) $$ Hdn
  icases Hdn' with ⟨Hn, Hp, Hg⟩
  -- the slice
  iapply (wp_hlo_within 𝒱 (SparseCore.T d) none Set.univ (op := opCut) (S := arrays) in_cut (V := Vc m d)) $$ [Hb Hn He Hz Hw Hp Hg Hr]
  · isplitl [Hb]; · iexact Hb
    rw [held_Vc]
    isplitl [Hn]; · iexact Hn
    isplitl [He]; · iexact He
    isplitl [Hz]; · iexact Hz
    isplitl [Hw]; · iexact Hw
    isplitl [Hp]; · iexact Hp
    isplitl [Hg]; · iexact Hg
    iexact Hr
  iintro ⟨Hb, Hheld⟩
  ihave Hh := (Entails.of_eq (held_Vd (F := F) m d)) $$ Hheld
  icases Hh with ⟨Hn, He, -, -, -, -, Hr⟩
  rw [wp_ret]; imodintro; imodintro
  isplitl [Hst]; · iexact Hst
  isplitr [Hb Hts]
  · isplitl [Hn]; · iexact Hn
    isplitl [He]; · iexact He
    iexact Hr
  isplitl [Hb] <;> iassumption

/-! ## The run -/

/-- What the claims read of a final memory on one device, -/
def Ends (d : Dev nD) (mem : (ℓ : Loc nD τ sig) → Buf (Elt F) ℓ) : Prop :=
  mem (nLoc d) = m (nLoc d) ∧ mem (eLoc d) = m (eLoc d) ∧ mem (rLoc d) = Result m d
/-- and of the whole final state. -/
def QC : PUnit × MemSt nD τ sig (Elt F) → Prop := fun r => (∀ d : Dev nD, Ends m d r.2.mem) ∧ r.2.sem = fun _ => 0

omit [FloatOps F] in
/-- An array held whole at `f` is at `f` in the state. -/
theorem at_end (s' : Phys nD τ sig (Elt F)) (ℓ : Loc nD τ sig) (f : Buf (Elt F) ℓ) (R : sProp 𝕄) :
    iprop((ℓ ↦{fullShare} f) ∗ R ∗ SI s') ⊢ iprop(⌜s'.mem.mem ℓ = f⌝ ∗ R ∗ SI s') := by
  iintro ⟨Hp, HR, HSI⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  isplitl [HR] <;> iassumption

/-- What a device holds at the end says what its memory is. -/
theorem hfin (d : Dev nD) (s' : Phys nD τ sig (Elt F)) : iprop(FIN m d ∗ SI s') ⊢ (⌜Ends m d s'.mem.mem⌝ : sProp 𝕄) := by
  iintro ⟨⟨Hn, He, Hr⟩, HSI⟩
  ihave H := (at_end s' (nLoc d) (m (nLoc d)) iprop((eLoc d ↦{fullShare} m (eLoc d)) ∗ rLoc d ↦{fullShare} Result m d)) $$ [Hn He Hr HSI]
  · isplitl [Hn]; · iexact Hn
    isplitl [He Hr]
    · isplitl [He] <;> iassumption
    iexact HSI
  icases H with ⟨%h1, ⟨He, Hr⟩, HSI⟩
  ihave H := (at_end s' (eLoc d) (m (eLoc d)) iprop(rLoc d ↦{fullShare} Result m d)) $$ [He Hr HSI]
  · isplitl [He]; · iexact He
    isplitl [Hr] <;> iassumption
  icases H with ⟨%h2, Hr, HSI⟩
  ihave H := (at_end s' (rLoc d) (Result m d) iprop(emp)) $$ [Hr HSI]
  · isplitl [Hr]; · iexact Hr
    isplitr; · iempintro
    iexact HSI
  icases H with ⟨%h3, -, -⟩
  ipureintro; exact ⟨h1, h2, h3⟩

/-- Every run of the program ends, the result at `Result`, the arguments as they were, every semaphore at zero. -/
theorem run_main [∀ e, Nonempty (Elt F e)] (hpre : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fun d s' => Ends m d s'.mem.mem) (hfin m) (QC m)
    (fun _ h hz => ⟨h, hz⟩)

end Cert.Proof.Gather

end
-- ==== Proof.Value.lean ====
/-
  The value: what the kernel leaves (`Result`) and what the reference's operations compute are, at indices that name rows
  of the table, the same array: `Taken`, whose row `i` is the row of the table that index `i` names.
-/
module

public import proofs.«01_k».proof.Proof.Launch
public import proofs.«01_k».proof.Proof.Gen.ReferenceIdeal
public import proofs.«01_k».proof.Proof.Gen.ReferenceIdeal.Run
public import Idealize.ShloMosaic.Lib.KernelVsHost

@[expose] public section

noncomputable section

namespace Cert.Proof.Gather

open Idealize.ShloMosaic Idealize.SL.Sem

/-- An index of the result, the position of its row in the index array, -/
abbrev posOf (y : KernelIdeal.S16384x64.Idx) : Fin 16384 := y 0
/-- and the table's index at a row and a column. -/
abbrev ixE (r : Fin 1000000) (j : Fin 64) : KernelIdeal.S1000000x64.Idx := Shape.pair (d := ![1000000, 64]) r j

/-- The rows of a table `t` that the words of an index array `n` name. -/
def Taken {α : Type} (n : KernelIdeal.S16384.Idx → BitVec 32) (t : KernelIdeal.S1000000x64.Idx → α) : KernelIdeal.S16384x64.Idx → α :=
  fun y => t (ixE (rowAt (n (ixN (posOf y)))) (y 1))

/-! ## The kernel's side -/

section Kernel
open Cert.KernelIdeal Cert.KernelIdeal.Gen

variable {F : FTy → Type} [FloatOps F]
variable (m : (ℓ : Loc nD τ sig) → Buf (Elt F) ℓ)

/-- The padded table at one of its first 64 columns is the table. -/
theorem pad_low (d : Dev nD) (r : Fin 1000000) (j : Fin 64) :
    Pad m d (ixT r ⟨j.val, Nat.lt_of_lt_of_le j.isLt (by decide)⟩) = m (eLoc d) (ixE r j) := by
  unfold Pad
  refine pad_apply_of_inside _ _ _ _ _ _ _ _ (ixE r j) fun a => ?_
  match a with
  | ⟨0, _⟩ => show r.val = 0 + r.val * (0 + 1); omega
  | ⟨1, _⟩ => show j.val = 0 + j.val * (0 + 1); omega

/-- What the kernel leaves is the rows its indices name. -/
theorem result_eq (d : Dev nD) : Result m d = Taken (m (nLoc d)) (m (eLoc d)) := by
  funext y
  refine Eq.trans ?_ (pad_low m d (rowAt (m (nLoc d) (ixN (posOf y)))) (y 1))
  unfold Result extractStridedSlice Rows Gath
  have h0 : ∀ (k : Nat) (h : 0 + k < 16384) (h' : k < 16384), (⟨0 + k, h⟩ : Fin 16384) = ⟨k, h'⟩ := fun k h h' => Fin.ext (Nat.zero_add k)
  have h1 : ∀ (k : Nat) (h : 0 + k < 128) (h' : k < 128), (⟨0 + k, h⟩ : Fin 128) = ⟨k, h'⟩ := fun k h h' => Fin.ext (Nat.zero_add k)
  exact congrArg₂ (fun (p : Fin 16384) (q : Fin 128) => Pad m d (ixT (rowAt (m (nLoc d) (ixN p))) q)) (h0 _ _ _) (h1 _ _ _)

end Kernel

/-! ## The reference's side -/

section Reference
open Cert.ReferenceIdeal Cert.ReferenceIdeal.Gen

/-- A conjunction of bits that are all set, from a set bit, is set. -/
theorem foldl_ones {β : Type} (l : List β) (f : β → BitVec 1) (h : ∀ b, f b = 1#1) :
    l.foldl (fun r b => IntOp.andi r (f b)) 1#1 = 1#1 := by
  induction l with
  | nil => rfl
  | cons b l ih => rw [List.foldl_cons, h b]; exact ih

/-- The start index the gather reads for an index of its result. -/
abbrev colOf (y : S16384x64.Idx) : S16384x1.Idx := Shape.pair (d := ![16384, 1]) (y 0) (0 : Fin 1)

/-- The gather whose start index names row `r` reads that row. -/
theorem gather_row {α : Type} (x : S1000000x64.Idx → α) (idx : IVec S16384x1 32) (y : S16384x64.Idx) (r : Fin 1000000)
    (h : (idx (colOf y)).toInt = (r.val : Int)) :
    Host.gather gather_S1000000x64_S16384x1_S16384x64_1_0_n_n_0_1_164 x idx y = x (ixE r (y 1)) := by
  unfold Host.gather
  congr 1
  funext a
  refine Fin.ext ?_
  show GatherDims.start _ y idx a + GatherDims.batchCoord _ y a + GatherDims.offCoord _ y a = _
  rw [GatherDims.batchCoord_eq_zero _ _ _ List.not_mem_nil, Nat.add_zero]
  have hr := r.isLt
  have ha : a = 0 ∨ a = 1 := match a with | ⟨0, _⟩ => .inl rfl | ⟨1, _⟩ => .inr rfl
  rcases ha with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S1000000x64_S16384x1_S16384x64_1_0_n_n_0_1_164.startIndexMap from List.mem_singleton.mpr rfl)]
    have hsi : ∀ c, GatherDims.siIdx gather_S1000000x64_S16384x1_S16384x64_1_0_n_n_0_1_164 y c = colOf y := fun c => by
      funext b; refine Fin.ext ?_
      match b with
      | ⟨0, _⟩ => rfl
      | ⟨1, _⟩ => exact Nat.lt_one_iff.mp c.isLt
    rw [hsi, h]
    show min (r.val : Int).toNat (1000000 - 1) = r.val
    omega
  · unfold GatherDims.start
    rw [dif_neg (show ¬(1 : Fin 2) ∈ gather_S1000000x64_S16384x1_S16384x64_1_0_n_n_0_1_164.startIndexMap from fun h => absurd (List.mem_singleton.mp h) (by decide)), Nat.zero_add]
    rfl

variable {F : FTy → Type} [FloatOps F]

/-- What the reference does to its index array first: a negative word counts from the end. -/
def wrapped (n : IVec S16384 32) : IVec S16384 32 :=
  select (cmpi .slt n (broadcastInDim S16384 ![] bcast_S_S16384 (constantI S_ 32 0#32)))
    (addi n (broadcastInDim S16384 ![] bcast_S_S16384 (constantI S_ 32 1000000#32))) n

/-- A word below a million is not negative, -/
theorem word_slt {w : BitVec 32} (h : w.toNat < 1000000) : IntOp.cmpi .slt w 0#32 = 0#1 := by
  simp only [IntOp.cmpi, BitVec.slt_eq_decide, BitVec.toInt_eq_toNat_cond, BitVec.toNat_ofNat, Nat.reducePow, Nat.reduceMod]
  rw [decide_eq_false (by omega)]; rfl
/-- is at least zero, -/
theorem word_sge {w : BitVec 32} (h : w.toNat < 1000000) : IntOp.cmpi .sge w 0#32 = 1#1 := by
  simp only [IntOp.cmpi, BitVec.sle_eq_decide, BitVec.toInt_eq_toNat_cond, BitVec.toNat_ofNat, Nat.reducePow, Nat.reduceMod]
  rw [decide_eq_true (by omega)]; rfl
/-- is at most the last row's number, -/
theorem word_sle {w : BitVec 32} (h : w.toNat < 1000000) : IntOp.cmpi .sle w 999999#32 = 1#1 := by
  simp only [IntOp.cmpi, BitVec.sle_eq_decide, BitVec.toInt_eq_toNat_cond, BitVec.toNat_ofNat, Nat.reducePow, Nat.reduceMod]
  rw [decide_eq_true (by omega)]; rfl
/-- and, read signed, is the number of the row it names. -/
theorem word_toInt {w : BitVec 32} (h : w.toNat < 1000000) : w.toInt = ((rowAt w).val : Int) := by
  rw [rowAt_val h, BitVec.toInt_eq_toNat_cond]; omega

/-- Words that name rows are left as they are. -/
theorem wrapped_eq {n : IVec S16384 32} (h : ∀ j, (n j).toNat < 1000000) : wrapped n = n := by
  funext j
  show Scalar.select (IntOp.cmpi .slt (n j) 0#32) _ _ = n j
  rw [word_slt (h j)]; rfl

/-- The index array as the gather's column of start indices, -/
abbrev column (n : IVec S16384 32) : IVec S16384x1 32 := broadcastInDim S16384x1 ![0] bcast_S16384_S16384x1_0 n
/-- and the bit of every position that its word names a row. -/
def okBits (n : IVec S16384 32) : IVec S16384 1 :=
  Host.reduce IntOp.andi
    (andi (cmpi .sge (column n) (broadcastInDim S16384x1 ![] bcast_S_S16384x1 (constantI S_ 32 0#32)))
      (cmpi .sle (column n)
        (broadcastInDim S16384x1 ![0, 1] bcast_S1x1_S16384x1_0_1 (broadcastInDim S1x1 ![1] bcast_S1_S1x1_1 (constantI S1 32 999999#32)))))
    (constantI S_ 1 1#1) reducesTo_S16384x1_S16384_d1 h_S_

/-- Where every word names a row, every bit is set. -/
theorem okBits_eq {n : IVec S16384 32} (h : ∀ j, (n j).toNat < 1000000) (j : S16384.Idx) : okBits n j = 1#1 := by
  unfold okBits Host.reduce
  refine foldl_ones _ _ fun b => ?_
  have hc : ∀ i, (column n i).toNat < 1000000 := fun i => h _
  show IntOp.andi (IntOp.cmpi .sge (column n _) 0#32) (IntOp.cmpi .sle (column n _) 999999#32) = 1#1
  rw [word_sge (hc _), word_sle (hc _)]; rfl

/-- The reference's result, of its two arguments. -/
def Looked (n : IVec S16384 32) (t : FVec F S1000000x64 .f32) : FVec F S16384x64 .f32 :=
  select (broadcastInDim S16384x64 ![0] bcast_S16384_S16384x64_0 (okBits (wrapped n)))
    (Host.gather gather_S1000000x64_S16384x1_S16384x64_1_0_n_n_0_1_164 t (column (wrapped n)))
    (broadcastInDim S16384x64 ![] bcast_S_S16384x64 (constant S_ .f32 0x7FC00000#32))

/-- Where every word names a row, the reference's result is those rows. -/
theorem looked_eq {n : IVec S16384 32} (h : ∀ j, (n j).toNat < 1000000) (t : FVec F S1000000x64 .f32) :
    Looked n t = Taken n t := by
  funext y
  unfold Looked
  rw [wrapped_eq h]
  show Scalar.select (okBits n _) (Host.gather gather_S1000000x64_S16384x1_S16384x64_1_0_n_n_0_1_164 t (column n) y) _ = _
  rw [okBits_eq h]
  have hcol : column n (colOf y) = n (ixN (posOf y)) :=
    congrArg n (funext fun a => match a with | ⟨0, _⟩ => rfl)
  exact gather_row t (column n) y _ ((congrArg BitVec.toInt hcol).trans (word_toInt (h _)))

/-- The reference's run ends with its result at `Looked` of its arguments, and those as they were. -/
theorem run_reference (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = Looked (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Reference

end Cert.Proof.Gather

end
-- ==== Proof.lean ====
/-
  The proof of `Cert.Claim`: the gather of embedding rows ends on every run, leaves its arguments and its semaphores as
  they were, and at the extended reals its result is the reference's.

  The parts: `Proof/Issue` (several gathers on one semaphore), `Proof/Setup` (arrays, blocks, what a task is given and
  gives back), `Proof/Chunk` (one gather of 128 rows), `Proof/Task` (the body, once, for any core and tile),
  `Proof/Launch` (the whole program's run, for any float values) and `Proof/Value` (the result and the reference's, index
  by index). The program and its idealization are one text, so one run serves both.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Value
public import Idealize.ShloMosaic.Adequacy
public import Idealize.ShloMosaic.Init
public import Idealize.ShloMosaic.Lib.WordCmp

@[expose] public section

noncomputable section

namespace Cert.Proof

open Idealize.ShloMosaic Idealize.SL.Sem Cert.Proof.Gather

/-- Where the precondition's bits are all set, every word of the index array names a row of the table. -/
theorem names_rows {F : FTy → Type} [FloatOps F] {n : IVec Pre_in_range.S16384 32} {t : FVec F Pre_in_range.S1000000x64 .f32}
    (h : Pre_in_range.fn (F := F) n t = fun _ => 1#1) (j : Pre_in_range.S16384.Idx) : (n j).toNat < 1000000 := by
  have e : IntOp.andi (IntOp.cmpi .sge (n j) 0#32) (IntOp.cmpi .slt (n j) 1000000#32) = 1#1 := congrFun h j
  rw [WordCmp.andi_sge_zero_slt_ofNat (k := 1000000) (by decide), WordCmp.ofBool_decide_eq_one_iff] at e
  exact e

/-- The kernel as printed: it ends, its arguments and its semaphores as they were. -/
theorem frame_kernel : Cert.quiescent_Kernel := fun m ρ hpre =>
  (θ_run Cert.KernelIdeal.defs _ _).mono (fun _ h => ⟨fun c => ⟨(h.1 c).1, (h.1 c).2.1⟩, h.2⟩)
    (run_main (F := Bits) m ρ fun d j => names_rows (hpre d) j)

/-- The kernel at the extended reals likewise. -/
theorem frame_kernelIdeal : Cert.quiescent_KernelIdeal := fun m ρ hpre =>
  (θ_run Cert.KernelIdeal.defs _ _).mono (fun _ h => ⟨fun c => ⟨(h.1 c).1, (h.1 c).2.1⟩, h.2⟩)
    (run_main (F := Ideal) m ρ fun d j => names_rows (hpre d) j)

/-- The reference at the extended reals likewise, whatever its indices: it declares no semaphore. -/
theorem frame_reference : Cert.quiescent_ReferenceIdeal := fun m ρ _ =>
  (θ_run Cert.ReferenceIdeal.defs _ _).mono (fun r h => ⟨fun c => (h c).2, sem_eq_zero_of_no_sems rfl r.2⟩)
    (run_reference (F := Ideal) m ρ)

/-- At indices that name rows, from the same arguments, the kernel and the reference end with the same result. -/
theorem value : Cert.algebraic_KernelIdeal_ReferenceIdeal := fun m ρ m' ρ' hpre hargs =>
  have hn : InRange m := fun d j => names_rows (hpre d) j
  ⟨Result m,
    (θ_run Cert.KernelIdeal.defs _ _).mono (fun _ h c => ⟨(h.1 c).2.2, (h.1 c).1, (h.1 c).2.1⟩) (run_main (F := Ideal) m ρ hn),
    (θ_run Cert.ReferenceIdeal.defs _ _).mono (fun _ h c => ⟨(h c).1.trans (by
      rw [(hargs c).1, (hargs c).2, result_eq m c]; exact looked_eq (hn c) _), (h c).2⟩) (run_reference (F := Ideal) m' ρ')⟩

/-- The five claims. -/
theorem claim : Cert.Claim := ⟨Cert.Kernel.Gen.facts, Cert.KernelIdeal.Gen.facts, Cert.ReferenceIdeal.Gen.facts, Cert.Pre_in_range.Gen.facts,
  frame_kernel, frame_kernelIdeal, frame_reference, fun m ρ _ => frame_reference m ρ trivial, trivial, value⟩

end Cert.Proof

end
